-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![1024, 512]⟩ ⟨2, ![1024, 16384]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512 : Shape := ⟨1, ![512]⟩
abbrev S1x512 : Shape := ⟨2, ![1, 512]⟩
abbrev S8x1024 : Shape := ⟨2, ![8, 1024]⟩
abbrev S4x1024 : Shape := ⟨2, ![4, 1024]⟩
abbrev S8 : Shape := ⟨1, ![8]⟩
abbrev S4 : Shape := ⟨1, ![4]⟩
abbrev S_ : Shape := ⟨0, ![]⟩
abbrev S1024 : Shape := ⟨1, ![1024]⟩
abbrev S1x1024 : Shape := ⟨2, ![1, 1024]⟩
abbrev S1 : Shape := ⟨1, ![1]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S1x512, .f32⟩
  | .hbm, ⟨3, _⟩ => ⟨S1024x512, .f32⟩
  | .local _ .vmem, ⟨0, _⟩ => ⟨S1024x512, .f32⟩
  | .local _ .vmem, ⟨1, _⟩ => ⟨S1x512, .f32⟩
  | .local _ .vmem, ⟨2, _⟩ => ⟨S1024x512, .f32⟩
  | .local _ .vmem, ⟨3, _⟩ => ⟨S8x1024, .f32⟩
  | .local _ .vmem, ⟨4, _⟩ => ⟨S4x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v15 : BitVec 32 := Scalar.addi v12 c1_i32_4
  let c8_i32_5 : BitVec 32 := 8#32
  let c0_i32_6 : BitVec 32 := 0#32
  let v16 : BitVec 1 := Scalar.cmpi .eq c8_i32_5 c0_i32_6
  let c1_i32_7 : BitVec 32 := 1#32
  let v17 : BitVec 32 := Scalar.select v16 c1_i32_7 c8_i32_5
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.addi v13 v25
  let c1_i32_12 : BitVec 32 := 1#32
  let v27 : BitVec 32 := Scalar.muli v26 c1_i32_12
  let v28 : BitVec 32 := Scalar.addi c0_i32_13 v27
  v28.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c2_i32 : BitVec 32 := 2#32
  let v29 : BitVec 32 := Scalar.addi v12 c2_i32
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let v40 : BitVec 32 := Scalar.addi v13 v39
  let c1_i32_21 : BitVec 32 := 1#32
  let v41 : BitVec 32 := Scalar.muli v40 c1_i32_21
  let v42 : BitVec 32 := Scalar.addi c0_i32_22 v41
  v42.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v43 : BitVec 32 := Scalar.addi v12 c3_i32
  let c8_i32_23 : BitVec 32 := 8#32
  let c0_i32_24 : BitVec 32 := 0#32
  let v44 : BitVec 1 := Scalar.cmpi .eq c8_i32_23 c0_i32_24
  let c1_i32_25 : BitVec 32 := 1#32
  let v45 : BitVec 32 := Scalar.select v44 c1_i32_25 c8_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let v54 : BitVec 32 := Scalar.addi v13 v53
  let c1_i32_30 : BitVec 32 := 1#32
  let v55 : BitVec 32 := Scalar.muli v54 c1_i32_30
  let v56 : BitVec 32 := Scalar.addi c0_i32_31 v55
  v56.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32 : BitVec 32 := 4#32
  let v57 : BitVec 32 := Scalar.addi v12 c4_i32
  let c8_i32_32 : BitVec 32 := 8#32
  let c0_i32_33 : BitVec 32 := 0#32
  let v58 : BitVec 1 := Scalar.cmpi .eq c8_i32_32 c0_i32_33
  let c1_i32_34 : BitVec 32 := 1#32
  let v59 : BitVec 32 := Scalar.select v58 c1_i32_34 c8_i32_32
  let v60 : BitVec 32 := Scalar.remsi v57 v59
  let c0_i32_36 : BitVec 32 := 0#32
  let v62 : BitVec 1 := Scalar.cmpi .slt v60 c0_i32_36
  let c0_i32_37 : BitVec 32 := 0#32
  let v63 : BitVec 1 := Scalar.cmpi .slt v59 c0_i32_37
  let v64 : BitVec 1 := Scalar.xori v62 v63
  let c0_i32_35 : BitVec 32 := 0#32
  let v61 : BitVec 1 := Scalar.cmpi .ne v60 c0_i32_35
  let v65 : BitVec 1 := Scalar.andi v64 v61
  let v66 : BitVec 32 := Scalar.addi v60 v59
  let v67 : BitVec 32 := Scalar.select v65 v66 v60
  let v68 : BitVec 32 := Scalar.addi v13 v67
  let c1_i32_39 : BitVec 32 := 1#32
  let v69 : BitVec 32 := Scalar.muli v68 c1_i32_39
  let v70 : BitVec 32 := Scalar.addi c0_i32_40 v69
  v70.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c5_i32 : BitVec 32 := 5#32
  let v71 : BitVec 32 := Scalar.addi v12 c5_i32
  let c8_i32_41 : BitVec 32 := 8#32
  let c0_i32_42 : BitVec 32 := 0#32
  let v72 : BitVec 1 := Scalar.cmpi .eq c8_i32_41 c0_i32_42
  let c1_i32_43 : BitVec 32 := 1#32
  let v73 : BitVec 32 := Scalar.select v72 c1_i32_43 c8_i32_41
  let v74 : BitVec 32 := Scalar.remsi v71 v73
  let c0_i32_45 : BitVec 32 := 0#32
  let v76 : BitVec 1 := Scalar.cmpi .slt v74 c0_i32_45
  let c0_i32_46 : BitVec 32 := 0#32
  let v77 : BitVec 1 := Scalar.cmpi .slt v73 c0_i32_46
  let v78 : BitVec 1 := Scalar.xori v76 v77
  let c0_i32_44 : BitVec 32 := 0#32
  let v75 : BitVec 1 := Scalar.cmpi .ne v74 c0_i32_44
  let v79 : BitVec 1 := Scalar.andi v78 v75
  let v80 : BitVec 32 := Scalar.addi v74 v73
  let v81 : BitVec 32 := Scalar.select v79 v80 v74
  let v82 : BitVec 32 := Scalar.addi v13 v81
  let c1_i32_48 : BitVec 32 := 1#32
  let v83 : BitVec 32 := Scalar.muli v82 c1_i32_48
  let v84 : BitVec 32 := Scalar.addi c0_i32_49 v83
  v84.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c6_i32 : BitVec 32 := 6#32
  let v85 : BitVec 32 := Scalar.addi v12 c6_i32
  let c8_i32_50 : BitVec 32 := 8#32
  let c0_i32_51 : BitVec 32 := 0#32
  let v86 : BitVec 1 := Scalar.cmpi .eq c8_i32_50 c0_i32_51
  let c1_i32_52 : BitVec 32 := 1#32
  let v87 : BitVec 32 := Scalar.select v86 c1_i32_52 c8_i32_50
  let v88 : BitVec 32 := Scalar.remsi v85 v87
  let c0_i32_54 : BitVec 32 := 0#32
  let v90 : BitVec 1 := Scalar.cmpi .slt v88 c0_i32_54
  let c0_i32_55 : BitVec 32 := 0#32
  let v91 : BitVec 1 := Scalar.cmpi .slt v87 c0_i32_55
  let v92 : BitVec 1 := Scalar.xori v90 v91
  let c0_i32_53 : BitVec 32 := 0#32
  let v89 : BitVec 1 := Scalar.cmpi .ne v88 c0_i32_53
  let v93 : BitVec 1 := Scalar.andi v92 v89
  let v94 : BitVec 32 := Scalar.addi v88 v87
  let v95 : BitVec 32 := Scalar.select v93 v94 v88
  let v96 : BitVec 32 := Scalar.addi v13 v95
  let c1_i32_57 : BitVec 32 := 1#32
  let v97 : BitVec 32 := Scalar.muli v96 c1_i32_57
  let v98 : BitVec 32 := Scalar.addi c0_i32_58 v97
  v98.toNat
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c7_i32 : BitVec 32 := 7#32
  let v99 : BitVec 32 := Scalar.addi v12 c7_i32
  let c8_i32_59 : BitVec 32 := 8#32
  let c0_i32_60 : BitVec 32 := 0#32
  let v100 : BitVec 1 := Scalar.cmpi .eq c8_i32_59 c0_i32_60
  let c1_i32_61 : BitVec 32 := 1#32
  let v101 : BitVec 32 := Scalar.select v100 c1_i32_61 c8_i32_59
  let v102 : BitVec 32 := Scalar.remsi v99 v101
  let c0_i32_63 : BitVec 32 := 0#32
  let v104 : BitVec 1 := Scalar.cmpi .slt v102 c0_i32_63
  let c0_i32_64 : BitVec 32 := 0#32
  let v105 : BitVec 1 := Scalar.cmpi .slt v101 c0_i32_64
  let v106 : BitVec 1 := Scalar.xori v104 v105
  let c0_i32_62 : BitVec 32 := 0#32
  let v103 : BitVec 1 := Scalar.cmpi .ne v102 c0_i32_62
  let v107 : BitVec 1 := Scalar.andi v106 v103
  let v108 : BitVec 32 := Scalar.addi v102 v101
  let v109 : BitVec 32 := Scalar.select v107 v108 v102
  let v110 : BitVec 32 := Scalar.addi v13 v109
  let c1_i32_66 : BitVec 32 := 1#32
  let v111 : BitVec 32 := Scalar.muli v110 c1_i32_66
  let v112 : BitVec 32 := Scalar.addi c0_i32_67 v111
  v112.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_68 : BitVec 32 := 8#32
  let v113 : BitVec 32 := Scalar.addi v2 c8_i32_68
  let c32_i32_69 : BitVec 32 := 32#32
  let c0_i32_70 : BitVec 32 := 0#32
  let v114 : BitVec 1 := Scalar.cmpi .eq c32_i32_69 c0_i32_70
  let c1_i32_71 : BitVec 32 := 1#32
  let v115 : BitVec 32 := Scalar.select v114 c1_i32_71 c32_i32_69
  let v116 : BitVec 32 := Scalar.remsi v113 v115
  let c0_i32_73 : BitVec 32 := 0#32
  let v118 : BitVec 1 := Scalar.cmpi .slt v116 c0_i32_73
  let c0_i32_74 : BitVec 32 := 0#32
  let v119 : BitVec 1 := Scalar.cmpi .slt v115 c0_i32_74
  let v120 : BitVec 1 := Scalar.xori v118 v119
  let c0_i32_72 : BitVec 32 := 0#32
  let v117 : BitVec 1 := Scalar.cmpi .ne v116 c0_i32_72
  let v121 : BitVec 1 := Scalar.andi v120 v117
  let v122 : BitVec 32 := Scalar.addi v116 v115
  let v123 : BitVec 32 := Scalar.select v121 v122 v116
  let c1_i32_76 : BitVec 32 := 1#32
  let v124 : BitVec 32 := Scalar.muli v123 c1_i32_76
  let v125 : BitVec 32 := Scalar.addi c0_i32_77 v124
  v125.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v126 : BitVec 32 := Scalar.addi v2 c16_i32
  let c32_i32_78 : BitVec 32 := 32#32
  let c0_i32_79 : BitVec 32 := 0#32
  let v127 : BitVec 1 := Scalar.cmpi .eq c32_i32_78 c0_i32_79
  let c1_i32_80 : BitVec 32 := 1#32
  let v128 : BitVec 32 := Scalar.select v127 c1_i32_80 c32_i32_78
  let v129 : BitVec 32 := Scalar.remsi v126 v128
  let c0_i32_82 : BitVec 32 := 0#32
  let v131 : BitVec 1 := Scalar.cmpi .slt v129 c0_i32_82
  let c0_i32_83 : BitVec 32 := 0#32
  let v132 : BitVec 1 := Scalar.cmpi .slt v128 c0_i32_83
  let v133 : BitVec 1 := Scalar.xori v131 v132
  let c0_i32_81 : BitVec 32 := 0#32
  let v130 : BitVec 1 := Scalar.cmpi .ne v129 c0_i32_81
  let v134 : BitVec 1 := Scalar.andi v133 v130
  let v135 : BitVec 32 := Scalar.addi v129 v128
  let v136 : BitVec 32 := Scalar.select v134 v135 v129
  let c1_i32_85 : BitVec 32 := 1#32
  let v137 : BitVec 32 := Scalar.muli v136 c1_i32_85
  let v138 : BitVec 32 := Scalar.addi c0_i32_86 v137
  v138.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v139 : BitVec 32 := Scalar.addi v2 c24_i32
  let c32_i32_87 : BitVec 32 := 32#32
  let c0_i32_88 : BitVec 32 := 0#32
  let v140 : BitVec 1 := Scalar.cmpi .eq c32_i32_87 c0_i32_88
  let c1_i32_89 : BitVec 32 := 1#32
  let v141 : BitVec 32 := Scalar.select v140 c1_i32_89 c32_i32_87
  let v142 : BitVec 32 := Scalar.remsi v139 v141
  let c0_i32_91 : BitVec 32 := 0#32
  let v144 : BitVec 1 := Scalar.cmpi .slt v142 c0_i32_91
  let c0_i32_92 : BitVec 32 := 0#32
  let v145 : BitVec 1 := Scalar.cmpi .slt v141 c0_i32_92
  let v146 : BitVec 1 := Scalar.xori v144 v145
  let c0_i32_90 : BitVec 32 := 0#32
  let v143 : BitVec 1 := Scalar.cmpi .ne v142 c0_i32_90
  let v147 : BitVec 1 := Scalar.andi v146 v143
  let v148 : BitVec 32 := Scalar.addi v142 v141
  let v149 : BitVec 32 := Scalar.select v147 v148 v142
  let c1_i32_94 : BitVec 32 := 1#32
  let v150 : BitVec 32 := Scalar.muli v149 c1_i32_94
  let v151 : BitVec 32 := Scalar.addi c0_i32_95 v150
  v151.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_99 : BitVec 32 := 1#32
  let v159 : BitVec 32 := Scalar.addi v12 c1_i32_99
  let c8_i32_100 : BitVec 32 := 8#32
  let c0_i32_101 : BitVec 32 := 0#32
  let v160 : BitVec 1 := Scalar.cmpi .eq c8_i32_100 c0_i32_101
  let c1_i32_102 : BitVec 32 := 1#32
  let v161 : BitVec 32 := Scalar.select v160 c1_i32_102 c8_i32_100
  let v162 : BitVec 32 := Scalar.remsi v159 v161
  let c0_i32_104 : BitVec 32 := 0#32
  let v164 : BitVec 1 := Scalar.cmpi .slt v162 c0_i32_104
  let c0_i32_105 : BitVec 32 := 0#32
  let v165 : BitVec 1 := Scalar.cmpi .slt v161 c0_i32_105
  let v166 : BitVec 1 := Scalar.xori v164 v165
  let c0_i32_103 : BitVec 32 := 0#32
  let v163 : BitVec 1 := Scalar.cmpi .ne v162 c0_i32_103
  let v167 : BitVec 1 := Scalar.andi v166 v163
  let v168 : BitVec 32 := Scalar.addi v162 v161
  let v169 : BitVec 32 := Scalar.select v167 v168 v162
  let v170 : BitVec 32 := Scalar.addi v13 v169
  let c1_i32_110 : BitVec 32 := 1#32
  let v171 : BitVec 32 := Scalar.muli v170 c1_i32_110
  let v172 : BitVec 32 := Scalar.addi c0_i32_111 v171
  v172.toNat
def k0_dev12 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c2_i32_114 : BitVec 32 := 2#32
  let v181 : BitVec 32 := Scalar.addi v12 c2_i32_114
  let c8_i32_115 : BitVec 32 := 8#32
  let c0_i32_116 : BitVec 32 := 0#32
  let v182 : BitVec 1 := Scalar.cmpi .eq c8_i32_115 c0_i32_116
  let c1_i32_117 : BitVec 32 := 1#32
  let v183 : BitVec 32 := Scalar.select v182 c1_i32_117 c8_i32_115
  let v184 : BitVec 32 := Scalar.remsi v181 v183
  let c0_i32_119 : BitVec 32 := 0#32
  let v186 : BitVec 1 := Scalar.cmpi .slt v184 c0_i32_119
  let c0_i32_120 : BitVec 32 := 0#32
  let v187 : BitVec 1 := Scalar.cmpi .slt v183 c0_i32_120
  let v188 : BitVec 1 := Scalar.xori v186 v187
  let c0_i32_118 : BitVec 32 := 0#32
  let v185 : BitVec 1 := Scalar.cmpi .ne v184 c0_i32_118
  let v189 : BitVec 1 := Scalar.andi v188 v185
  let v190 : BitVec 32 := Scalar.addi v184 v183
  let v191 : BitVec 32 := Scalar.select v189 v190 v184
  let v192 : BitVec 32 := Scalar.addi v13 v191
  let c1_i32_125 : BitVec 32 := 1#32
  let v193 : BitVec 32 := Scalar.muli v192 c1_i32_125
  let v194 : BitVec 32 := Scalar.addi c0_i32_126 v193
  v194.toNat
def k0_dev13 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32_129 : BitVec 32 := 3#32
  let v203 : BitVec 32 := Scalar.addi v12 c3_i32_129
  let c8_i32_130 : BitVec 32 := 8#32
  let c0_i32_131 : BitVec 32 := 0#32
  let v204 : BitVec 1 := Scalar.cmpi .eq c8_i32_130 c0_i32_131
  let c1_i32_132 : BitVec 32 := 1#32
  let v205 : BitVec 32 := Scalar.select v204 c1_i32_132 c8_i32_130
  let v206 : BitVec 32 := Scalar.remsi v203 v205
  let c0_i32_134 : BitVec 32 := 0#32
  let v208 : BitVec 1 := Scalar.cmpi .slt v206 c0_i32_134
  let c0_i32_135 : BitVec 32 := 0#32
  let v209 : BitVec 1 := Scalar.cmpi .slt v205 c0_i32_135
  let v210 : BitVec 1 := Scalar.xori v208 v209
  let c0_i32_133 : BitVec 32 := 0#32
  let v207 : BitVec 1 := Scalar.cmpi .ne v206 c0_i32_133
  let v211 : BitVec 1 := Scalar.andi v210 v207
  let v212 : BitVec 32 := Scalar.addi v206 v205
  let v213 : BitVec 32 := Scalar.select v211 v212 v206
  let v214 : BitVec 32 := Scalar.addi v13 v213
  let c1_i32_140 : BitVec 32 := 1#32
  let v215 : BitVec 32 := Scalar.muli v214 c1_i32_140
  let v216 : BitVec 32 := Scalar.addi c0_i32_141 v215
  v216.toNat
def k0_dev14 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_144 : BitVec 32 := 4#32
  let v225 : BitVec 32 := Scalar.addi v12 c4_i32_144
  let c8_i32_145 : BitVec 32 := 8#32
  let c0_i32_146 : BitVec 32 := 0#32
  let v226 : BitVec 1 := Scalar.cmpi .eq c8_i32_145 c0_i32_146
  let c1_i32_147 : BitVec 32 := 1#32
  let v227 : BitVec 32 := Scalar.select v226 c1_i32_147 c8_i32_145
  let v228 : BitVec 32 := Scalar.remsi v225 v227
  let c0_i32_149 : BitVec 32 := 0#32
  let v230 : BitVec 1 := Scalar.cmpi .slt v228 c0_i32_149
  let c0_i32_150 : BitVec 32 := 0#32
  let v231 : BitVec 1 := Scalar.cmpi .slt v227 c0_i32_150
  let v232 : BitVec 1 := Scalar.xori v230 v231
  let c0_i32_148 : BitVec 32 := 0#32
  let v229 : BitVec 1 := Scalar.cmpi .ne v228 c0_i32_148
  let v233 : BitVec 1 := Scalar.andi v232 v229
  let v234 : BitVec 32 := Scalar.addi v228 v227
  let v235 : BitVec 32 := Scalar.select v233 v234 v228
  let v236 : BitVec 32 := Scalar.addi v13 v235
  let c1_i32_155 : BitVec 32 := 1#32
  let v237 : BitVec 32 := Scalar.muli v236 c1_i32_155
  let v238 : BitVec 32 := Scalar.addi c0_i32_156 v237
  v238.toNat
def k0_dev15 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c5_i32_159 : BitVec 32 := 5#32
  let v247 : BitVec 32 := Scalar.addi v12 c5_i32_159
  let c8_i32_160 : BitVec 32 := 8#32
  let c0_i32_161 : BitVec 32 := 0#32
  let v248 : BitVec 1 := Scalar.cmpi .eq c8_i32_160 c0_i32_161
  let c1_i32_162 : BitVec 32 := 1#32
  let v249 : BitVec 32 := Scalar.select v248 c1_i32_162 c8_i32_160
  let v250 : BitVec 32 := Scalar.remsi v247 v249
  let c0_i32_164 : BitVec 32 := 0#32
  let v252 : BitVec 1 := Scalar.cmpi .slt v250 c0_i32_164
  let c0_i32_165 : BitVec 32 := 0#32
  let v253 : BitVec 1 := Scalar.cmpi .slt v249 c0_i32_165
  let v254 : BitVec 1 := Scalar.xori v252 v253
  let c0_i32_163 : BitVec 32 := 0#32
  let v251 : BitVec 1 := Scalar.cmpi .ne v250 c0_i32_163
  let v255 : BitVec 1 := Scalar.andi v254 v251
  let v256 : BitVec 32 := Scalar.addi v250 v249
  let v257 : BitVec 32 := Scalar.select v255 v256 v250
  let v258 : BitVec 32 := Scalar.addi v13 v257
  let c1_i32_170 : BitVec 32 := 1#32
  let v259 : BitVec 32 := Scalar.muli v258 c1_i32_170
  let v260 : BitVec 32 := Scalar.addi c0_i32_171 v259
  v260.toNat
def k0_dev16 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c6_i32_174 : BitVec 32 := 6#32
  let v269 : BitVec 32 := Scalar.addi v12 c6_i32_174
  let c8_i32_175 : BitVec 32 := 8#32
  let c0_i32_176 : BitVec 32 := 0#32
  let v270 : BitVec 1 := Scalar.cmpi .eq c8_i32_175 c0_i32_176
  let c1_i32_177 : BitVec 32 := 1#32
  let v271 : BitVec 32 := Scalar.select v270 c1_i32_177 c8_i32_175
  let v272 : BitVec 32 := Scalar.remsi v269 v271
  let c0_i32_179 : BitVec 32 := 0#32
  let v274 : BitVec 1 := Scalar.cmpi .slt v272 c0_i32_179
  let c0_i32_180 : BitVec 32 := 0#32
  let v275 : BitVec 1 := Scalar.cmpi .slt v271 c0_i32_180
  let v276 : BitVec 1 := Scalar.xori v274 v275
  let c0_i32_178 : BitVec 32 := 0#32
  let v273 : BitVec 1 := Scalar.cmpi .ne v272 c0_i32_178
  let v277 : BitVec 1 := Scalar.andi v276 v273
  let v278 : BitVec 32 := Scalar.addi v272 v271
  let v279 : BitVec 32 := Scalar.select v277 v278 v272
  let v280 : BitVec 32 := Scalar.addi v13 v279
  let c1_i32_185 : BitVec 32 := 1#32
  let v281 : BitVec 32 := Scalar.muli v280 c1_i32_185
  let v282 : BitVec 32 := Scalar.addi c0_i32_186 v281
  v282.toNat
def k0_dev17 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c7_i32_189 : BitVec 32 := 7#32
  let v291 : BitVec 32 := Scalar.addi v12 c7_i32_189
  let c8_i32_190 : BitVec 32 := 8#32
  let c0_i32_191 : BitVec 32 := 0#32
  let v292 : BitVec 1 := Scalar.cmpi .eq c8_i32_190 c0_i32_191
  let c1_i32_192 : BitVec 32 := 1#32
  let v293 : BitVec 32 := Scalar.select v292 c1_i32_192 c8_i32_190
  let v294 : BitVec 32 := Scalar.remsi v291 v293
  let c0_i32_194 : BitVec 32 := 0#32
  let v296 : BitVec 1 := Scalar.cmpi .slt v294 c0_i32_194
  let c0_i32_195 : BitVec 32 := 0#32
  let v297 : BitVec 1 := Scalar.cmpi .slt v293 c0_i32_195
  let v298 : BitVec 1 := Scalar.xori v296 v297
  let c0_i32_193 : BitVec 32 := 0#32
  let v295 : BitVec 1 := Scalar.cmpi .ne v294 c0_i32_193
  let v299 : BitVec 1 := Scalar.andi v298 v295
  let v300 : BitVec 32 := Scalar.addi v294 v293
  let v301 : BitVec 32 := Scalar.select v299 v300 v294
  let v302 : BitVec 32 := Scalar.addi v13 v301
  let c1_i32_200 : BitVec 32 := 1#32
  let v303 : BitVec 32 := Scalar.muli v302 c1_i32_200
  let v304 : BitVec 32 := Scalar.addi c0_i32_201 v303
  v304.toNat
def k0_dev18 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_318 : BitVec 32 := 8#32
  let v464 : BitVec 32 := Scalar.addi v2 c8_i32_318
  let c32_i32_319 : BitVec 32 := 32#32
  let c0_i32_320 : BitVec 32 := 0#32
  let v465 : BitVec 1 := Scalar.cmpi .eq c32_i32_319 c0_i32_320
  let c1_i32_321 : BitVec 32 := 1#32
  let v466 : BitVec 32 := Scalar.select v465 c1_i32_321 c32_i32_319
  let v467 : BitVec 32 := Scalar.remsi v464 v466
  let c0_i32_323 : BitVec 32 := 0#32
  let v469 : BitVec 1 := Scalar.cmpi .slt v467 c0_i32_323
  let c0_i32_324 : BitVec 32 := 0#32
  let v470 : BitVec 1 := Scalar.cmpi .slt v466 c0_i32_324
  let v471 : BitVec 1 := Scalar.xori v469 v470
  let c0_i32_322 : BitVec 32 := 0#32
  let v468 : BitVec 1 := Scalar.cmpi .ne v467 c0_i32_322
  let v472 : BitVec 1 := Scalar.andi v471 v468
  let v473 : BitVec 32 := Scalar.addi v467 v466
  let v474 : BitVec 32 := Scalar.select v472 v473 v467
  let c1_i32_329 : BitVec 32 := 1#32
  let v475 : BitVec 32 := Scalar.muli v474 c1_i32_329
  let v476 : BitVec 32 := Scalar.addi c0_i32_330 v475
  v476.toNat
def k0_dev19 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_333 : BitVec 32 := 16#32
  let v485 : BitVec 32 := Scalar.addi v2 c16_i32_333
  let c32_i32_334 : BitVec 32 := 32#32
  let c0_i32_335 : BitVec 32 := 0#32
  let v486 : BitVec 1 := Scalar.cmpi .eq c32_i32_334 c0_i32_335
  let c1_i32_336 : BitVec 32 := 1#32
  let v487 : BitVec 32 := Scalar.select v486 c1_i32_336 c32_i32_334
  let v488 : BitVec 32 := Scalar.remsi v485 v487
  let c0_i32_338 : BitVec 32 := 0#32
  let v490 : BitVec 1 := Scalar.cmpi .slt v488 c0_i32_338
  let c0_i32_339 : BitVec 32 := 0#32
  let v491 : BitVec 1 := Scalar.cmpi .slt v487 c0_i32_339
  let v492 : BitVec 1 := Scalar.xori v490 v491
  let c0_i32_337 : BitVec 32 := 0#32
  let v489 : BitVec 1 := Scalar.cmpi .ne v488 c0_i32_337
  let v493 : BitVec 1 := Scalar.andi v492 v489
  let v494 : BitVec 32 := Scalar.addi v488 v487
  let v495 : BitVec 32 := Scalar.select v493 v494 v488
  let c1_i32_344 : BitVec 32 := 1#32
  let v496 : BitVec 32 := Scalar.muli v495 c1_i32_344
  let v497 : BitVec 32 := Scalar.addi c0_i32_345 v496
  v497.toNat
def k0_dev20 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_348 : BitVec 32 := 24#32
  let v506 : BitVec 32 := Scalar.addi v2 c24_i32_348
  let c32_i32_349 : BitVec 32 := 32#32
  let c0_i32_350 : BitVec 32 := 0#32
  let v507 : BitVec 1 := Scalar.cmpi .eq c32_i32_349 c0_i32_350
  let c1_i32_351 : BitVec 32 := 1#32
  let v508 : BitVec 32 := Scalar.select v507 c1_i32_351 c32_i32_349
  let v509 : BitVec 32 := Scalar.remsi v506 v508
  let c0_i32_353 : BitVec 32 := 0#32
  let v511 : BitVec 1 := Scalar.cmpi .slt v509 c0_i32_353
  let c0_i32_354 : BitVec 32 := 0#32
  let v512 : BitVec 1 := Scalar.cmpi .slt v508 c0_i32_354
  let v513 : BitVec 1 := Scalar.xori v511 v512
  let c0_i32_352 : BitVec 32 := 0#32
  let v510 : BitVec 1 := Scalar.cmpi .ne v509 c0_i32_352
  let v514 : BitVec 1 := Scalar.andi v513 v510
  let v515 : BitVec 32 := Scalar.addi v509 v508
  let v516 : BitVec 32 := Scalar.select v514 v515 v509
  let c1_i32_359 : BitVec 32 := 1#32
  let v517 : BitVec 32 := Scalar.muli v516 c1_i32_359
  let v518 : BitVec 32 := Scalar.addi c0_i32_360 v517
  v518.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x16384 : Shape := ⟨2, ![1024, 16384]⟩
abbrev S16384 : Shape := ⟨1, ![16384]⟩
abbrev S_ : Shape := ⟨0, ![]⟩
abbrev S1024 : Shape := ⟨1, ![1024]⟩
abbrev S1024x1 : Shape := ⟨2, ![1024, 1]⟩
abbrev S1x16384 : Shape := ⟨2, ![1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384, .f32⟩
  | .hbm, ⟨2, _⟩ => ⟨S1024x16384, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1x16384, .f32⟩
  | .hbm, ⟨14, _⟩ => ⟨S1024x16384, .f32⟩
  | .hbm, ⟨15, _⟩ => ⟨S1024x16384, .f32⟩
  | .hbm, ⟨16, _⟩ => ⟨S1024x16384, .f32⟩
  | .hbm, ⟨17, _⟩ => ⟨S1024x16384, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Mesh.lean ====
/-
  The links of the exchange and the program by its phases.

  Every device talks over ten links: seven to the other devices of its plane of eight, three to the devices at its
  place in the other three planes. A link is named by `J`: `.inl p` is the plane link at distance `p + 1`, `.inr z`
  the link across planes at distance `z + 1`. Everything that the ten links have in common is said once, for a link.
-/
module

public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Rms

open Idealize.ShloMosaic Idealize.ShloMosaic.TcCoe Idealize.SL.Sem
open Cert.KernelIdeal Cert.KernelIdeal.Gen

theorem dlt (c : Dev nD) : c.val < 32 := c.isLt

/-- A link: within the plane, or across planes. -/
abbrev J : Type := Fin 7 ⊕ Fin 3

/-- Where device `c`'s link `j` leads. -/
def peer : J → Dev nD → Dev nD
  | .inl p, c => ⟨c.val / 8 * 8 + (c.val % 8 + p.val + 1) % 8, by have := dlt c; show _ < 32; omega⟩
  | .inr z, c => ⟨(c.val + 8 * (z.val + 1)) % 32, by show _ < 32; omega⟩

/-- The link on which the far device reaches back. -/
def rev : J → J
  | .inl p => .inl p.rev
  | .inr z => .inr z.rev

theorem peer_inl (p : Fin 7) (c : Dev nD) : (peer (.inl p) c).val = c.val / 8 * 8 + (c.val % 8 + p.val + 1) % 8 := rfl
theorem peer_inr (z : Fin 3) (c : Dev nD) : (peer (.inr z) c).val = (c.val + 8 * (z.val + 1)) % 32 := rfl
theorem rev_inl (p : Fin 7) : rev (.inl p) = .inl p.rev := rfl
theorem rev_inr (z : Fin 3) : rev (.inr z) = .inr z.rev := rfl

theorem rev_rev (j : J) : rev (rev j) = j := by revert j; decide

theorem peer_rev_peer (j : J) (c : Dev nD) : peer (rev j) (peer j c) = c := by
  rcases j with p | z
  · apply Fin.ext; rw [rev_inl, peer_inl, peer_inl, Fin.val_rev]; have := dlt c; have := p.isLt; omega
  · apply Fin.ext; rw [rev_inr, peer_inr, peer_inr, Fin.val_rev]; have := dlt c; have := z.isLt; omega

theorem peer_peer_rev (j : J) (c : Dev nD) : peer j (peer (rev j) c) = c := by
  have h := peer_rev_peer (rev j) c; rwa [rev_rev] at h

/-- A link as a rearrangement of the devices. -/
def link (j : J) : Dev nD ≃ Dev nD := ⟨peer j, peer (rev j), peer_rev_peer j, peer_peer_rev j⟩

/-- Whose partial sum row `r` of a device's first exchange buffer holds. -/
def from1 (c : Dev nD) (r : Fin 8) : Dev nD := ⟨c.val / 8 * 8 + (c.val % 8 + (8 - r.val)) % 8, by have := dlt c; show _ < 32; omega⟩
/-- Whose plane total row `r` of a device's second exchange buffer holds. -/
def from2 (c : Dev nD) (r : Fin 4) : Dev nD := ⟨(c.val + 8 * (4 - r.val)) % 32, by show _ < 32; omega⟩

theorem from1_val (c : Dev nD) (r : Fin 8) : (from1 c r).val = c.val / 8 * 8 + (c.val % 8 + (8 - r.val)) % 8 := rfl
theorem from2_val (c : Dev nD) (r : Fin 4) : (from2 c r).val = (c.val + 8 * (4 - r.val)) % 32 := rfl

theorem from1_zero (c : Dev nD) : from1 c 0 = c := by
  apply Fin.ext; rw [from1_val, Fin.val_zero]; have := dlt c; omega
theorem from2_zero (c : Dev nD) : from2 c 0 = c := by
  apply Fin.ext; rw [from2_val, Fin.val_zero]; have := dlt c; omega
theorem from1_peer (p : Fin 7) (c : Dev nD) : from1 (peer (.inl p) c) p.succ = c := by
  apply Fin.ext; rw [from1_val, peer_inl, Fin.val_succ]; have := dlt c; have := p.isLt; omega
theorem from2_peer (z : Fin 3) (c : Dev nD) : from2 (peer (.inr z) c) z.succ = c := by
  apply Fin.ext; rw [from2_val, peer_inr, Fin.val_succ]; have := dlt c; have := z.isLt; omega

/-! ## The devices the program names -/

/-- The device that a signal on link `j` names. -/
def devS (d : Dev nD) : J → Dev nD
  | .inl p => ![⟨k0_dev1 d, k0_dev1_lt d⟩, ⟨k0_dev2 d, k0_dev2_lt d⟩, ⟨k0_dev3 d, k0_dev3_lt d⟩, ⟨k0_dev4 d, k0_dev4_lt d⟩,
      ⟨k0_dev5 d, k0_dev5_lt d⟩, ⟨k0_dev6 d, k0_dev6_lt d⟩, ⟨k0_dev7 d, k0_dev7_lt d⟩] p
  | .inr z => ![⟨k0_dev8 d, k0_dev8_lt d⟩, ⟨k0_dev9 d, k0_dev9_lt d⟩, ⟨k0_dev10 d, k0_dev10_lt d⟩] z

/-- The device that a copy on link `j` names. -/
def devC (d : Dev nD) : J → Dev nD
  | .inl p => ![⟨k0_dev11 d, k0_dev11_lt d⟩, ⟨k0_dev12 d, k0_dev12_lt d⟩, ⟨k0_dev13 d, k0_dev13_lt d⟩, ⟨k0_dev14 d, k0_dev14_lt d⟩,
      ⟨k0_dev15 d, k0_dev15_lt d⟩, ⟨k0_dev16 d, k0_dev16_lt d⟩, ⟨k0_dev17 d, k0_dev17_lt d⟩] p
  | .inr z => ![⟨k0_dev18 d, k0_dev18_lt d⟩, ⟨k0_dev19 d, k0_dev19_lt d⟩, ⟨k0_dev20 d, k0_dev20_lt d⟩] z

theorem devS_eq (d : Dev nD) (j : J) : devS d j = peer j d := by
  rcases j with p | z
  · revert d p; decide +kernel
  · revert d z; decide +kernel

theorem devC_eq (d : Dev nD) (j : J) : devC d j = peer j d := by
  rcases j with p | z
  · revert d p; decide +kernel
  · revert d z; decide +kernel

/-! ## Buffers, rows, semaphores -/

abbrev xM : Memref sig .tc .vmem S1024x512 .f32 := Memref.whole cc0_stg0_0
abbrev gM : Memref sig .tc .vmem S1x512 .f32 := Memref.whole cc0_stg1_0
abbrev oM : Memref sig .tc .vmem S1024x512 .f32 := Memref.whole cc0_stg2_0
abbrev aM : Memref sig .tc .vmem S8x1024 .f32 := Memref.whole cc0_scratch0
abbrev bM : Memref sig .tc .vmem S4x1024 .f32 := Memref.whole cc0_scratch1

theorem inb1 (r : Fin 8) : ∀ a, (![r.val, 0] : Fin 2 → Nat) a + S1x1024.size a ≤ S8x1024.size a := by revert r; decide
theorem inb2 (r : Fin 4) : ∀ a, (![r.val, 0] : Fin 2 → Nat) a + S1x1024.size a ≤ S4x1024.size a := by revert r; decide

/-- Row `r` of the first exchange buffer, as the copies name it; -/
abbrev row1 (r : Fin 8) : Memref sig .tc .vmem S1024 .f32 :=
  (aM.slice (Rect.unit (s := S8x1024) ![r.val, 0] S1x1024.size (inb1 r)) (fun _ => rfl)).squeeze S1024 squeezes_S1x1024_S1024
/-- of the second. -/
abbrev row2 (r : Fin 4) : Memref sig .tc .vmem S1024 .f32 :=
  (bM.slice (Rect.unit (s := S4x1024) ![r.val, 0] S1x1024.size (inb2 r)) (fun _ => rfl)).squeeze S1024 squeezes_S1x1024_S1024

/-- What a copy on link `j` reads, and where it lands. -/
def srcM : J → Memref sig .tc .vmem S1024 .f32
  | .inl _ => row1 0
  | .inr _ => row2 0
def dstM : J → Memref sig .tc .vmem S1024 .f32
  | .inl p => row1 p.succ
  | .inr z => row2 z.succ

/-- Link `j`'s send semaphore and its receive semaphore. -/
def sS : J → DmaSem sig
  | .inl p => (⟨4 + p.val, by have := p.isLt; omega⟩ : Fin 27)
  | .inr z => (⟨20 + z.val, by have := z.isLt; omega⟩ : Fin 27)
def rS : J → DmaSem sig
  | .inl p => (⟨12 + p.val, by have := p.isLt; omega⟩ : Fin 27)
  | .inr z => (⟨24 + z.val, by have := z.isLt; omega⟩ : Fin 27)

/-- The barrier's semaphore. -/
abbrev barS : Sem sig := (SemArray.scalar (sig.barrier 0 rfl) : Sems sig S_).sem

theorem dst_word (j : J) : (dstM j).view.WordExact := View.wordExact_bits rfl
theorem src_word (j : J) : (srcM j).view.WordExact := View.wordExact_bits rfl

/-! ## The program by its phases -/

variable {F : FTy → Type} [FloatOps F]

abbrev KProg (F : FTy → Type) [FloatOps F] := Prog (TpuEff nD τ sig (Elt F) Λ₀ .tc) PUnit

/-- One unit to each far device's barrier. -/
def signals (d : Dev nD) : List J → KProg F → KProg F
  | [], k => k
  | j :: js, k => .op (.semSignal ((devS d j : Dev nD) : Thread nD τ) barS 1) fun _ => signals d js k

theorem hsc0 (j : J) : (dstM j).view.ref.isScScratch = false := by rcases j with p | z <;> rfl

/-- The copies on a list of links. -/
def copies (d : Dev nD) : List J → KProg F → KProg F
  | [], k => k
  | j :: js, k => .op (.enqueueDma (srcM j) (.remote (Dev.tc (devC d j)) (dstM j) (.dma (sS j))) (.dma (rS j))
      (src_word j) (dst_word j) (by rcases j with p | z <;> exact ⟨⟨rfl, Or.inl rfl⟩, trivial⟩)) fun _ => copies d js k

/-- Waiting on one semaphore for each link of a list. -/
def waits (sem : J → DmaSem sig) (a b : J → Memref sig .tc .vmem S1024 .f32) (ha : ∀ j, (a j).view.WordExact)
    (hb : ∀ j, (b j).view.WordExact) : List J → KProg F → KProg F
  | [], k => k
  | j :: js, k => .op (.waitDma2 (sem j) (a j) (b j) (ha j) (hb j)) fun _ => waits sem a b ha hb js k

theorem copy_typed (d' : Dev nD) (j : J) : DmaTarget.Typed .vmem (.dma (rS j) : SemLoc sig)
    (.remote (p := (Proc.tc : Proc τ)) (Dev.tc d') (dstM j) (.dma (sS j)) (hsc0 j)) := by
  rcases j with p | z <;> exact ⟨⟨rfl, Or.inl rfl⟩, trivial⟩

theorem signals_cons (d : Dev nD) (j : J) (js : List J) (k : KProg F) : signals d (j :: js) k
    = .op (.semSignal ((peer j d : Dev nD) : Thread nD τ) barS 1) fun _ => signals d js k := by
  rw [← devS_eq]; rfl
theorem copies_cons (d : Dev nD) (j : J) (js : List J) (k : KProg F) : copies d (j :: js) k
    = .op (.enqueueDma (srcM j) (.remote (Dev.tc (peer j d)) (dstM j) (.dma (sS j)) (hsc0 j)) (.dma (rS j))
      (src_word j) (dst_word j) (copy_typed (peer j d) j)) fun _ => copies d js k := by
  rw [← devC_eq]; rfl
theorem waits_cons (sem : J → DmaSem sig) (a b : J → Memref sig .tc .vmem S1024 .f32) (ha : ∀ j, (a j).view.WordExact)
    (hb : ∀ j, (b j).view.WordExact) (j : J) (js : List J) (k : KProg F) : waits sem a b ha hb (j :: js) k
    = .op (.waitDma2 (sem j) (a j) (b j) (ha j) (hb j)) fun _ => waits sem a b ha hb js k := rfl

/-- Waiting for what lands over a list of links. -/
abbrev lands : List J → KProg F → KProg F := waits rS dstM dstM dst_word dst_word

/-- Waiting for one's own copies to have left. -/
abbrev leaves : List J → KProg F → KProg F := waits sS dstM srcM dst_word src_word

abbrev planeL : List J := [.inl 0, .inl 1, .inl 2, .inl 3, .inl 4, .inl 5, .inl 6]
abbrev acrossL : List J := [.inr 0, .inr 1, .inr 2]
abbrev allL : List J := [.inl 0, .inl 1, .inl 2, .inl 3, .inl 4, .inl 5, .inl 6, .inr 0, .inr 1, .inr 2]

abbrev rX : Rect S1024x512 := Rect.unit (s := S1024x512) ![0, 0] S1024x512.size inb_S1024x512_S1024x512_0_0
abbrev rG : Rect S1x512 := Rect.unit (s := S1x512) ![0, 0] S1x512.size inb_S1x512_S1x512_0_0
abbrev rA0 : Rect S8x1024 := Rect.unit (s := S8x1024) ![0, 0] S1x1024.size inb_S8x1024_S1x1024_0_0
abbrev rA : Rect S8x1024 := Rect.unit (s := S8x1024) ![0, 0] S8x1024.size inb_S8x1024_S8x1024_0_0
abbrev rB0 : Rect S4x1024 := Rect.unit (s := S4x1024) ![0, 0] S1x1024.size inb_S4x1024_S1x1024_0_0
abbrev rB : Rect S4x1024 := Rect.unit (s := S4x1024) ![0, 0] S4x1024.size inb_S4x1024_S4x1024_0_0

/-- After the second exchange: scale the result and wait for the own copies. -/
def tail : KProg F :=
  .op (.load bM rB.toLoadRect (View.loadsAt_vmem h_S4x1024)) fun v584 =>
  .op (.load oM rX.toLoadRect (View.loadsAt_vmem h_S1024x512)) fun v591 =>
  .op (.load oM rX.toLoadRect (View.loadsAt_vmem h_S1024x512)) fun _ =>
  .op (.store oM rX (k0_pay5 v584 v591) Finset.univ (View.stores_vmem_bits_univ h_S1024x512 rfl) (.inl rfl)) fun _ =>
  leaves allL (.ret ⟨⟩)

/-- After the first exchange has landed: the plane total, and the second exchange. -/
def second (d : Dev nD) : KProg F :=
  .op (.load aM rA.toLoadRect (View.loadsAt_vmem h_S8x1024)) fun v459 =>
  .op (.load bM rB0.toLoadRect (View.loadsAt_vmem h_S1x1024)) fun _ =>
  .op (.store bM rB0 (k0_pay4 v459) Finset.univ (View.stores_vmem_bits_univ h_S1x1024 rfl) (.inl rfl)) fun _ =>
  copies d acrossL (lands acrossL tail)

/-- Between the first copies and their landing: the product with the scale row. -/
def middle (d : Dev nD) (v152 : Vec F S1024x512 .f32) : KProg F :=
  .op (.load gM rG.toLoadRect (View.loadsAt_vmem h_S1x512)) fun v313 =>
  .op (.load oM rX.toLoadRect (View.loadsAt_vmem h_S1024x512)) fun _ =>
  .op (.store oM rX (k0_pay3 (k0_pay1 v152) v313) Finset.univ (View.stores_vmem_bits_univ h_S1024x512 rfl) (.inl rfl)) fun _ =>
  lands planeL (second d)

/-- The kernel. -/
def prog : KProg F :=
  .op .deviceId fun d =>
  signals d allL <|
  .op (.load xM rX.toLoadRect (View.loadsAt_vmem h_S1024x512)) fun v152 =>
  .op (.load aM rA0.toLoadRect (View.loadsAt_vmem h_S1x1024)) fun _ =>
  .op (.store aM rA0 (k0_pay2 v152) Finset.univ (View.stores_vmem_bits_univ h_S1x1024 rfl) (.inl rfl)) fun _ =>
  .op (.semWait barS 10) fun _ =>
  copies d planeL (middle d v152)

set_option maxRecDepth 65536 in
theorem body_eq (h0 : xM.IsWhole) (h1 : gM.IsWhole) (h2 : oM.IsWhole) (h3 : aM.IsWhole) (h4 : bM.IsWhole) :
    cc0_body (F := F) xM h0 gM h1 oM h2 aM h3 bM h4 cc0_scratch2 cc0_scratch3 cc0_scratch4 cc0_scratch5 = prog :=
  rfl

end Cert.Rms
-- ==== Proof.Sched.lean ====
/-
  What the exchange hands over, when, and to whom.

  A device's barrier cell has one duty per link: the far device of the link pays it with the row of its own buffer
  that the link's copy is to land in. A link's receive cell is paid by the copy with that row at the sender's values; its
  send cell with the share of the source row that the copy read. Contents are functions of every device's block `X`.
-/
module

public import proofs.«01_k».proof.Proof.Mesh
public import Idealize.ShloMosaic.Lib.Pipeline.RegionTalk
public import Idealize.ShloMosaic.Lib.Rounds
public import Idealize.ShloMosaic.Lib.Rounds.Family
public import Idealize.ShloMosaic.Lib.Pointwise.Index
public import Idealize.ShloMosaic.Lib.Tactic

@[expose] public section

noncomputable section

namespace Cert.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

abbrev UU : Type := UR sig nD τ × URounds (GSem nD τ sig) J

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) J) (MT nD τ sig Unit (Elt F) ℕ UU ℕ) := embR

/-! ## Rows -/

/-- The place in a row of the element `i` of a buffer of rows. -/
def col1 (i : S8x1024.Idx) : S1x1024.Idx := ix2 (0 : Fin 1) (i 1)
def col2 (i : S4x1024.Idx) : S1x1024.Idx := ix2 (0 : Fin 1) (i 1)

abbrev rowR1 (r : Fin 8) : Rect S8x1024 := Rect.unit (s := S8x1024) ![r.val, 0] S1x1024.size (inb1 r)
abbrev rowR2 (r : Fin 4) : Rect S4x1024 := Rect.unit (s := S4x1024) ![r.val, 0] S1x1024.size (inb2 r)

theorem rowR1_row (r : Fin 8) (y : S1x1024.Idx) : (rowR1 r).emb y 0 = r := by
  apply Fin.ext
  show r.val + 1 * (y 0).val = r.val
  have : (y 0).val < 1 := (y 0).isLt
  omega
theorem rowR2_row (r : Fin 4) (y : S1x1024.Idx) : (rowR2 r).emb y 0 = r := by
  apply Fin.ext
  show r.val + 1 * (y 0).val = r.val
  have : (y 0).val < 1 := (y 0).isLt
  omega
theorem rowR1_col (r : Fin 8) (y : S1x1024.Idx) : col1 ((rowR1 r).emb y) = y := by
  funext a
  apply Fin.ext
  refine Fin.cases ?_ (fun b => ?_) a
  · have : (y 0).val < 1 := (y 0).isLt
    show 0 = (y 0).val; omega
  · obtain rfl : b = 0 := Subsingleton.elim _ _
    show 0 + 1 * (y 1).val = (y 1).val; omega
theorem rowR2_col (r : Fin 4) (y : S1x1024.Idx) : col2 ((rowR2 r).emb y) = y := by
  funext a
  apply Fin.ext
  refine Fin.cases ?_ (fun b => ?_) a
  · have : (y 0).val < 1 := (y 0).isLt
    show 0 = (y 0).val; omega
  · obtain rfl : b = 0 := Subsingleton.elim _ _
    show 0 + 1 * (y 1).val = (y 1).val; omega

theorem rowR1_set (r : Fin 8) : (rowR1 r).set = Finset.univ.filter fun i : S8x1024.Idx => (i 0).val = r.val := by
  ext i
  rw [Finset.mem_filter]
  constructor
  · intro h
    obtain ⟨y, rfl⟩ := LoadRect.exists_idx_of_mem _ h
    exact ⟨Finset.mem_univ _, congrArg Fin.val (rowR1_row r y)⟩
  · rintro ⟨-, h⟩
    suffices e : (rowR1 r).emb (col1 i) = i from e ▸ LoadRect.idx_mem (rowR1 r).toLoadRect (col1 i)
    funext a
    apply Fin.ext
    refine Fin.cases ?_ (fun b => ?_) a
    · show r.val + 1 * 0 = (i 0).val; rw [h]; rfl
    · obtain rfl : b = 0 := Subsingleton.elim _ _
      show 0 + 1 * (i 1).val = (i 1).val; omega
theorem rowR2_set (r : Fin 4) : (rowR2 r).set = Finset.univ.filter fun i : S4x1024.Idx => (i 0).val = r.val := by
  ext i
  rw [Finset.mem_filter]
  constructor
  · intro h
    obtain ⟨y, rfl⟩ := LoadRect.exists_idx_of_mem _ h
    exact ⟨Finset.mem_univ _, congrArg Fin.val (rowR2_row r y)⟩
  · rintro ⟨-, h⟩
    suffices e : (rowR2 r).emb (col2 i) = i from e ▸ LoadRect.idx_mem (rowR2 r).toLoadRect (col2 i)
    funext a
    apply Fin.ext
    refine Fin.cases ?_ (fun b => ?_) a
    · show r.val + 1 * 0 = (i 0).val; rw [h]; rfl
    · obtain rfl : b = 0 := Subsingleton.elim _ _
      show 0 + 1 * (i 1).val = (i 1).val; omega

theorem row1_set (r : Fin 8) : (row1 r).view.set = Finset.univ.filter fun i : S8x1024.Idx => (i 0).val = r.val :=
  (View.set_reshape _ _).trans ((View.set_slice_whole cc0_scratch0 (rowR1 r)).trans (rowR1_set r))
theorem row2_set (r : Fin 4) : (row2 r).view.set = Finset.univ.filter fun i : S4x1024.Idx => (i 0).val = r.val :=
  (View.set_reshape _ _).trans ((View.set_slice_whole cc0_scratch1 (rowR2 r)).trans (rowR2_set r))

/-! ## Contents -/

section Contents

variable (X : Dev nD → Vec F S1024x512 .f32)

/-- Device `d`'s sums of squares over its own columns. -/
def part (d : Dev nD) : FVec F S1x1024 .f32 := k0_pay2 (X d)
/-- The first exchange buffer of device `c` once its plane's rows are in. -/
def C1 (c : Dev nD) : (cc0_scratch0 : Ref sig .tc).ty.Contents (Elt F) := fun i => part X (from1 c (i 0)) (col1 i)
/-- Device `c`'s plane total. -/
def plane (c : Dev nD) : FVec F S1x1024 .f32 := k0_pay4 (C1 X c)
/-- The second exchange buffer of device `c` once the other planes' rows are in. -/
def C2 (c : Dev nD) : (cc0_scratch1 : Ref sig .tc).ty.Contents (Elt F) := fun i => plane X (from2 c (i 0)) (col2 i)

theorem C1_row (c : Dev nD) (r : Fin 8) (y : S1x1024.Idx) : C1 X c ((rowR1 r).emb y) = part X (from1 c r) y := by
  show part X (from1 c ((rowR1 r).emb y 0)) (col1 ((rowR1 r).emb y)) = _
  rw [rowR1_row, rowR1_col]
theorem C2_row (c : Dev nD) (r : Fin 4) (y : S1x1024.Idx) : C2 X c ((rowR2 r).emb y) = plane X (from2 c r) y := by
  show plane X (from2 c ((rowR2 r).emb y 0)) (col2 ((rowR2 r).emb y)) = _
  rw [rowR2_row, rowR2_col]

/-- What the source's buffer and the destination's hold on link `j`, on device `c`. -/
def CS (c : Dev nD) : (j : J) → Buf (Elt F) ((srcM j).view.loc (c : Thread nD τ))
  | .inl _ => C1 X c
  | .inr _ => C2 X c
def CD (c : Dev nD) : (j : J) → Buf (Elt F) ((dstM j).view.loc (c : Thread nD τ))
  | .inl _ => C1 X c
  | .inr _ => C2 X c

/-- A copy on link `j` lands what the far device's buffer is to hold in that row. -/
theorem lands_eq (c : Dev nD) (j : J) (fd : Buf (Elt F) ((dstM j).view.loc ((peer j c : Dev nD) : Thread nD τ))) :
    ∀ i ∈ (dstM j).view.set, (dstM j).view.write (Elt F) fd ((srcM j).view.read (Elt F) (CS X c j)) Finset.univ i
      = CD X (peer j c) j i := by
  intro i hi
  obtain ⟨x, -, rfl⟩ := Finset.mem_map.mp hi
  rw [View.write_emb_of_mem (h := Finset.mem_univ x)]
  rcases j with p | z
  · show C1 X c ((rowR1 0).emb (Shape.reshapeEquiv _ x)) = C1 X (peer (.inl p) c) ((rowR1 p.succ).emb (Shape.reshapeEquiv _ x))
    rw [C1_row, C1_row, from1_zero, from1_peer]
  · show C2 X c ((rowR2 0).emb (Shape.reshapeEquiv _ x)) = C2 X (peer (.inr z) c) ((rowR2 z.succ).emb (Shape.reshapeEquiv _ x))
    rw [C2_row, C2_row, from2_zero, from2_peer]

end Contents

/-! ## Cells and points-tos -/

abbrev barCell (c : Dev nD) : GSem nD τ sig := ((c : Thread nD τ), .reg barS)
abbrev sendCell (c : Dev nD) (j : J) : GSem nD τ sig := ((c : Thread nD τ), .dma (sS j))
abbrev recvCell (c : Dev nD) (j : J) : GSem nD τ sig := ((c : Thread nD τ), .dma (rS j))

/-- What one copy on link `j` credits. -/
def N (j : J) : ℕ := (dstM j).view.dmaCredit
theorem N_pos (j : J) : 0 < N j := View.dmaCredit_pos _ (by decide)
theorem N_src (j : J) : (srcM j).view.dmaCredit = N j := by rcases j with p | z <;> rfl

/-- The share of the source row that the copy on link `j` reads. -/
def tok : J → PosShare TreeShare
  | .inl p => Transfers.shareTok fullShare 7 p
  | .inr z => Transfers.shareTok fullShare 3 z

def dstPts (c : Dev nD) (j : J) (f : Buf (Elt F) ((dstM j).view.loc (c : Thread nD τ))) : sProp 𝕄 :=
  (dstM j).view.loc (c : Thread nD τ) ↦[(dstM j).view.set]{fullShare} f
def srcPts (c : Dev nD) (j : J) (f : Buf (Elt F) ((srcM j).view.loc (c : Thread nD τ))) : sProp 𝕄 :=
  (srcM j).view.loc (c : Thread nD τ) ↦[(srcM j).view.set]{tok j} f

/-! ## The schedule -/

/-- What a semaphore is to the exchange. -/
inductive Role where
  | bar | send (j : J) | recv (j : J) | other
  deriving DecidableEq

def roleD (n : ℕ) : Role :=
  if h : 4 ≤ n ∧ n < 11 then .send (.inl ⟨n - 4, by omega⟩)
  else if h : 12 ≤ n ∧ n < 19 then .recv (.inl ⟨n - 12, by omega⟩)
  else if h : 20 ≤ n ∧ n < 23 then .send (.inr ⟨n - 20, by omega⟩)
  else if h : 24 ≤ n ∧ n < 27 then .recv (.inr ⟨n - 24, by omega⟩)
  else .other

def role : SemLoc sig → Role
  | .reg _ => .bar
  | .dma s => roleD (Fin.val s)

theorem role_send : ∀ j : J, role (.dma (sS j)) = .send j := by decide
theorem role_recv : ∀ j : J, role (.dma (rS j)) = .recv j := by decide
theorem role_bar : role (.reg barS) = .bar := rfl

/-- The index of a cell's only duty, where it has one. -/
abbrev one : J := .inl 0

section Sched

variable (X : Dev nD → Vec F S1024x512 .f32)

def barPay (c : Dev nD) (j : J) : sProp 𝕄 :=
  iprop((∃ f, dstPts (peer j c) j f) ∗ reached ER (recvCell (peer j c) j) 0)
def recvPay (c : Dev nD) (j : J) : sProp 𝕄 := dstPts c j (CD X c j)
def sendPay (c : Dev nD) (j : J) : sProp 𝕄 := srcPts c j (CS X c j)

def dutiesOf : Role → Finset J
  | .bar => Finset.univ
  | .send _ => {one}
  | .recv _ => {one}
  | .other => ∅
def amountOf : Role → ℕ
  | .bar => 1
  | .send j => N j
  | .recv j => N j
  | .other => 1
def payOf (c : Dev nD) (d : J) : Role → sProp 𝕄
  | .bar => barPay c d
  | .send j => sendPay X c j
  | .recv j => recvPay X c j
  | .other => iprop(emp)

def talk : Rounds.Schedule (GSem nD τ sig) J 𝕄 where
  duties g r := if r = 0 ∧ g.1.2 = .tc then dutiesOf (role g.2) else ∅
  unitless _ := False
  amount g _ _ := amountOf (role g.2)
  payload g _ d := payOf X g.1.1 d (role g.2)
  amount_pos g _ _ _ := by
    show 0 < amountOf (role g.2)
    rcases role g.2 with _ | j | j | _
    · exact Nat.one_pos
    · exact N_pos j
    · exact N_pos j
    · exact Nat.one_pos

instance talk_storable (g : GSem nD τ sig) (r : ℕ) (d : J) : BI.Storable (upEmb : UEmb _ 𝕄) ((talk X).payload g r d) := by
  show BI.Storable upEmb (payOf X g.1.1 d (role g.2))
  rcases role g.2 with _ | j | j | _
  · show BI.Storable upEmb (barPay g.1.1 d); unfold barPay dstPts; infer_instance
  · show BI.Storable upEmb (sendPay X g.1.1 j); unfold sendPay srcPts; infer_instance
  · show BI.Storable upEmb (recvPay X g.1.1 j); unfold recvPay dstPts; infer_instance
  · show BI.Storable upEmb iprop(emp); infer_instance

variable (c : Dev nD) (j : J)

theorem duties_bar : (talk X).duties (barCell c) 0 = Finset.univ := by
  show (if (0 : ℕ) = 0 ∧ (c : Thread nD τ).2 = .tc then dutiesOf (role (.reg barS)) else ∅) = _
  exact if_pos ⟨rfl, rfl⟩
theorem duties_send : (talk X).duties (sendCell c j) 0 = {one} := by
  show (if (0 : ℕ) = 0 ∧ (c : Thread nD τ).2 = .tc then dutiesOf (role (.dma (sS j))) else ∅) = _
  rw [role_send]; exact if_pos ⟨rfl, rfl⟩
theorem duties_recv : (talk X).duties (recvCell c j) 0 = {one} := by
  show (if (0 : ℕ) = 0 ∧ (c : Thread nD τ).2 = .tc then dutiesOf (role (.dma (rS j))) else ∅) = _
  rw [role_recv]; exact if_pos ⟨rfl, rfl⟩
theorem duties_later (g : GSem nD τ sig) : ∀ r, 1 ≤ r → (talk X).duties g r = ∅ :=
  fun r hr => if_neg (fun h => by have := h.1; omega)

theorem amount_bar (d : J) : (talk X).amount (barCell c) 0 d = 1 := rfl
theorem amount_send (d : J) : (talk X).amount (sendCell c j) 0 d = N j := by
  show amountOf (role (.dma (sS j))) = _
  rw [role_send]; rfl
theorem amount_recv (d : J) : (talk X).amount (recvCell c j) 0 d = N j := by
  show amountOf (role (.dma (rS j))) = _
  rw [role_recv]; rfl

theorem expect_bar : (talk X).expect (barCell c) 0 = 10 := by
  unfold Schedule.expect Schedule.amountOf; rw [duties_bar]; exact (Finset.sum_const 1).trans (by decide)
theorem expect_send : (talk X).expect (sendCell c j) 0 = N j := by
  unfold Schedule.expect Schedule.amountOf; rw [duties_send, Finset.sum_singleton, amount_send]
theorem expect_recv : (talk X).expect (recvCell c j) 0 = N j := by
  unfold Schedule.expect Schedule.amountOf; rw [duties_recv, Finset.sum_singleton, amount_recv]

theorem payload_bar (d : J) : (talk X).payload (barCell c) 0 d = barPay c d := rfl
theorem payload_send (d : J) : (talk X).payload (sendCell c j) 0 d = sendPay X c j := by
  show payOf X c d (role (.dma (sS j))) = _
  rw [role_send]; rfl
theorem payload_recv (d : J) : (talk X).payload (recvCell c j) 0 d = recvPay X c j := by
  show payOf X c d (role (.dma (rS j))) = _
  rw [role_recv]; rfl

theorem rest_bar : bigSep ((talk X).duties (barCell c) 0 \ ∅) (fun d => (talk X).payload (barCell c) 0 d)
    = bigSep Finset.univ fun d => (barPay c d : sProp 𝕄) := by
  rw [Finset.sdiff_empty, duties_bar]; rfl
theorem rest_send : bigSep ((talk X).duties (sendCell c j) 0 \ ∅) (fun d => (talk X).payload (sendCell c j) 0 d) = sendPay X c j := by
  rw [Finset.sdiff_empty, duties_send, bigSep_singleton, payload_send]
theorem rest_recv : bigSep ((talk X).duties (recvCell c j) 0 \ ∅) (fun d => (talk X).payload (recvCell c j) 0 d) = recvPay X c j := by
  rw [Finset.sdiff_empty, duties_recv, bigSep_singleton, payload_recv]

theorem close (κ : ℕ) (g : GSem nD τ sig) :
    iprop(cellInv ER (talk X) κ g ∗ atPos ER g (0 + 1) ∅ 0) ⊢ (|={Set.univ}=> semVal g 0 : sProp 𝕄) :=
  Rounds.cell_close ER (talk X) (Set.mem_univ κ) id (duties_later X g)

end Sched

/-! ## What a device owes, and the levels -/

/-- The units a device owes over a list of links: one kind of unit per link. -/
def owed (f : J → CellTallies nD τ sig Unit) : List J → CellTallies nD τ sig Unit
  | [] => 0
  | j :: js => owed f js + f j

/-- The unit a signal on link `j` pays, and the credit a copy on it pays. -/
def oB (c : Dev nD) (j : J) : CellTallies nD τ sig Unit := tallyAt (barCell (peer j c)) () 1
def oR (c : Dev nD) (j : J) : CellTallies nD τ sig Unit := tallyAt (recvCell (peer j c) j) () (N j)

/-- What is still owed before the second exchange, before the first, and at the start. -/
def O₂ (c : Dev nD) : CellTallies nD τ sig Unit := owed (oR c) acrossL
def O₁ (c : Dev nD) : CellTallies nD τ sig Unit := owed (oR c) planeL + O₂ c
def O₀ (c : Dev nD) : CellTallies nD τ sig Unit := owed (oB c) allL + O₁ c

def L (g : GSem nD τ sig) : Finset Unit := if g.1.2 = .tc then {()} else ∅
def lvOf : Role → ℕ
  | .bar => 1
  | .recv (.inl _) => 2
  | .recv (.inr _) => 3
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem owed_pos (f : J → CellTallies nD τ sig Unit) (js : List J) {g : GSem nD τ sig} {u : Unit} (h : 0 < owed f js g u) :
    ∃ j ∈ js, 0 < f j g u := by
  induction js with
  | nil => exact absurd h (Nat.lt_irrefl 0)
  | cons j js ih =>
    have h' : 0 < owed f js g u + f j g u := h
    rcases Nat.add_pos_iff_pos_or_pos.mp h' with h' | h'
    · obtain ⟨i, hi, h''⟩ := ih h'; exact ⟨i, List.mem_cons_of_mem _ hi, h''⟩
    · exact ⟨j, List.mem_cons_self, h'⟩

theorem tally_pos {g g' : GSem nD τ sig} {n : ℕ} {u : Unit} (h : 0 < (tallyAt g' () n : CellTallies nD τ sig Unit) g u) : g = g' := by
  rw [tallyAt_apply] at h
  by_contra hne
  rw [if_neg (fun h' => hne h'.1)] at h
  exact absurd h (Nat.lt_irrefl 0)

theorem lv_across : ∀ j ∈ acrossL, 2 < lvOf (.recv j) := by decide
theorem lv_plane : ∀ j ∈ planeL, 1 < lvOf (.recv j) := by decide

theorem O₂_pos {c : Dev nD} {g : GSem nD τ sig} {u : Unit} (h : 0 < O₂ c g u) : u ∈ L g ∧ 2 < lv g u := by
  obtain ⟨j, hj, h⟩ := owed_pos (oR c) acrossL h
  obtain rfl := tally_pos h
  refine ⟨by rw [L_tc]; exact Finset.mem_singleton_self _, ?_⟩
  show 2 < lvOf (role (.dma (rS j)))
  rw [role_recv]
  exact lv_across j hj

theorem O₁_pos {c : Dev nD} {g : GSem nD τ sig} {u : Unit} (h : 0 < O₁ c g u) : u ∈ L g ∧ 1 < lv g u := by
  have h' : 0 < owed (oR c) planeL g u + O₂ c g u := h
  rcases Nat.add_pos_iff_pos_or_pos.mp h' with h | h
  · obtain ⟨j, hj, h⟩ := owed_pos _ _ h
    obtain rfl := tally_pos h
    refine ⟨by rw [L_tc]; exact Finset.mem_singleton_self _, ?_⟩
    show 1 < lvOf (role (.dma (rS j)))
    rw [role_recv]
    exact lv_plane j hj
  · exact ⟨(O₂_pos h).1, Nat.lt_of_succ_lt (O₂_pos h).2⟩

theorem O₀_pos {c : Dev nD} {g : GSem nD τ sig} {u : Unit} (h : 0 < O₀ c g u) : u ∈ L g ∧ 0 < lv g u := by
  have h' : 0 < owed (oB c) allL g u + O₁ c g u := h
  rcases Nat.add_pos_iff_pos_or_pos.mp h' with h | h
  · obtain ⟨j, hj, h⟩ := owed_pos _ _ h
    obtain rfl := tally_pos h
    exact ⟨by rw [L_tc]; exact Finset.mem_singleton_self _, Nat.one_pos⟩
  · exact ⟨(O₁_pos h).1, Nat.lt_of_succ_lt (O₁_pos h).2⟩

theorem plane_left : ∀ j ∈ planeL, Sum.isLeft j = true := by decide

theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun _ _ hg => (O₁_pos hg).1)
    (fun p hp => by rw [Finset.mem_singleton.mp hp]; exact Nat.le_refl 1)
    (fun _ _ hg => (O₁_pos hg).2)

theorem mayWait_plane (c : Dev nD) (p : Fin 7) :
    (levAts L lv : sProp 𝕄) ⊢ MayWait (c : Thread nD τ) (.dma (rS (.inl p))) () (O₂ c) :=
  MayOwe.of_cut (L := L) (lev := lv) 2 (fun p hp => by rw [Finset.mem_singleton.mp hp, L_tc]; exact Finset.mem_singleton_self _)
    (fun _ _ hg => (O₂_pos hg).1)
    (fun q hq => by
      rw [Finset.mem_singleton.mp hq]
      show lvOf (role (.dma (rS (.inl p)))) ≤ 2
      rw [role_recv]; exact Nat.le_refl 2)
    (fun _ _ hg => (O₂_pos hg).2)

theorem mayWait_planes (c : Dev nD) : ∀ j ∈ planeL, (levAts L lv : sProp 𝕄) ⊢ MayWait (c : Thread nD τ) (.dma (rS j)) () (O₂ c) := by
  rintro (p | z) h
  · exact mayWait_plane c p
  · exact absurd (plane_left _ h) Bool.false_ne_true

end Cert.Rms
-- ==== Proof.Phases.lean ====
/-
  The phases of the exchange, each over a list of links, by induction on the list: the signals that give one's own rows
  away, the copies, the waits, and the closing of the cells.
-/
module

public import proofs.«01_k».proof.Proof.Sched

@[expose] public section

noncomputable section

namespace Cert.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## One assertion per link of a list -/

def sepL (Φ : J → sProp 𝕄) : List J → sProp 𝕄
  | [] => iprop(emp)
  | j :: js => iprop(Φ j ∗ sepL Φ js)

omit [FloatOps F] in
theorem sepL_nil (Φ : J → sProp 𝕄) : sepL Φ [] = iprop(emp) := rfl
omit [FloatOps F] in
theorem sepL_cons (Φ : J → sProp 𝕄) (j : J) (js : List J) : sepL Φ (j :: js) = iprop(Φ j ∗ sepL Φ js) := rfl

/-- One of a family held together. -/
theorem one_of {M I : Type} [URA M] [DecidableEq I] {s : Finset I} {i : I} (hi : i ∈ s) (Φ : I → sProp M) : bigSep s Φ ⊢ Φ i := bigSep_elim hi

omit [FloatOps F] in
theorem sepL_eq (Φ : J → sProp 𝕄) : (js : List J) → js.Nodup → sepL Φ js = bigSep js.toFinset Φ
  | [], _ => rfl
  | j :: js, h => by
    obtain ⟨h₁, h₂⟩ := List.nodup_cons.mp h
    rw [List.toFinset_cons, BI.bigSep_insert (fun h => h₁ (List.mem_toFinset.mp h)), ← sepL_eq Φ js h₂]
    rfl

omit [FloatOps F] in
theorem all_eq (Φ : J → sProp 𝕄) : bigSep Finset.univ Φ = sepL Φ allL := by
  rw [sepL_eq Φ allL (by decide)]; exact congrArg (fun s => bigSep s Φ) (by decide)

omit [FloatOps F] in
theorem sepL_append (Φ : J → sProp 𝕄) (l₁ l₂ : List J) : sepL Φ (l₁ ++ l₂) ⊣⊢ iprop(sepL Φ l₁ ∗ sepL Φ l₂) := by
  induction l₁ with
  | nil =>
    constructor
    · show sepL Φ l₂ ⊢ iprop(emp ∗ sepL Φ l₂)
      iintro H; isplitr; · iempintro
      iexact H
    · show iprop(emp ∗ sepL Φ l₂) ⊢ sepL Φ l₂
      iintro ⟨-, H⟩; iexact H
  | cons j l₁ ih =>
    constructor
    · show iprop(Φ j ∗ sepL Φ (l₁ ++ l₂)) ⊢ iprop((Φ j ∗ sepL Φ l₁) ∗ sepL Φ l₂)
      iintro ⟨H, Hs⟩
      ihave Hs := ih.1 $$ Hs
      icases Hs with ⟨H₁, H₂⟩
      isplitl [H H₁]; · isplitl [H] <;> iassumption
      iexact H₂
    · show iprop((Φ j ∗ sepL Φ l₁) ∗ sepL Φ l₂) ⊢ iprop(Φ j ∗ sepL Φ (l₁ ++ l₂))
      iintro ⟨⟨H, H₁⟩, H₂⟩
      isplitl [H]; · iexact H
      iapply ih.2
      isplitl [H₁] <;> iassumption

omit [FloatOps F] in
theorem sepL_mono {Φ Ψ : J → sProp 𝕄} : (js : List J) → (∀ j ∈ js, Φ j ⊢ Ψ j) → (sepL Φ js ⊢ sepL Ψ js)
  | [], _ => BI.Entails.refl _
  | j :: js, h => BIClass.sep_mono (h j List.mem_cons_self) (sepL_mono js fun i hi => h i (List.mem_cons_of_mem _ hi))

omit [FloatOps F] in
theorem sepL_at (Φ : J → sProp 𝕄) {j : J} (h : j ∈ allL) : sepL Φ allL ⊢ Φ j := by
  rw [← all_eq]; exact one_of (Finset.mem_univ j) Φ

omit [FloatOps F] in
instance sepL_persistent (Φ : J → sProp 𝕄) [∀ j, BI.Persistent (Φ j)] (js : List J) : BI.Persistent (sepL Φ js) := by
  induction js with
  | nil => show BI.Persistent iprop(emp); infer_instance
  | cons j js ih => show BI.Persistent iprop(Φ j ∗ sepL Φ js); infer_instance

theorem mem_all (j : J) : j ∈ allL :=
  List.mem_toFinset.mp ((show Finset.univ = allL.toFinset by decide) ▸ Finset.mem_univ j)

/-! ## The cells, and what every device may consult -/

theorem sS_inj : ∀ i j : J, sS i = sS j → i = j := by decide
theorem rS_inj : ∀ i j : J, rS i = rS j → i = j := by decide
theorem sS_ne_rS : ∀ i j : J, sS i ≠ rS j := by decide

/-- The link semaphores of a device, and their places among the device's semaphores. -/
def linkSem : J ⊕ J → SemLoc sig
  | .inl j => .dma (sS j)
  | .inr j => .dma (rS j)
theorem linkSem_inj : Function.Injective linkSem := by
  rintro (i | i) (j | j) h
  · exact congrArg Sum.inl (sS_inj i j (SemLoc.dma.inj h))
  · exact absurd (SemLoc.dma.inj h) (sS_ne_rS i j)
  · exact absurd (SemLoc.dma.inj h).symm (sS_ne_rS j i)
  · exact congrArg Sum.inr (rS_inj i j (SemLoc.dma.inj h))

def barEmb : Dev nD ↪ GSem nD τ sig := ⟨fun c => barCell c, fun a b h => congrArg (fun g : GSem nD τ sig => g.1.1) h⟩
def linkEmb : Dev nD × (J ⊕ J) ↪ GSem nD τ sig :=
  ⟨fun x => ((x.1 : Thread nD τ), linkSem x.2), fun a b h =>
    Prod.ext (congrArg (fun g : GSem nD τ sig => g.1.1) h) (linkSem_inj (congrArg (fun g : GSem nD τ sig => g.2) h))⟩
def barCells : Finset (GSem nD τ sig) := Finset.univ.map barEmb
def linkCells : Finset (GSem nD τ sig) := Finset.univ.map linkEmb

theorem bar_mem (c : Dev nD) : barCell c ∈ barCells ∪ linkCells :=
  Finset.mem_union_left _ (Finset.mem_map_of_mem barEmb (Finset.mem_univ c))
theorem send_mem (c : Dev nD) (j : J) : sendCell c j ∈ barCells ∪ linkCells :=
  Finset.mem_union_right _ (Finset.mem_map_of_mem linkEmb (Finset.mem_univ (c, Sum.inl j)))
theorem recv_mem (c : Dev nD) (j : J) : recvCell c j ∈ barCells ∪ linkCells :=
  Finset.mem_union_right _ (Finset.mem_map_of_mem linkEmb (Finset.mem_univ (c, Sum.inr j)))

section Phases

variable (𝒱 : Variants) (X : Dev nD → Vec F S1024x512 .f32) (κ : GSem nD τ sig → ℕ) (c : Dev nD)

/-- Every cell's invariant, and that every barrier cell is at its only round. -/
def records : sProp 𝕄 :=
  iprop((bigSep (barCells ∪ linkCells) fun g => cellInv ER (talk X) (κ g) g) ∗ bigSep barCells fun g => reached ER g 0)

instance records_persistent : BI.Persistent (records X κ) := by unfold records; infer_instance

/-- With what the device knows of its own link cells once they are open. -/
def ctx : sProp 𝕄 :=
  iprop(records X κ ∗ sepL (fun j => reached ER (sendCell c j) 0) allL ∗ sepL (fun j => reached ER (recvCell c j) 0) allL ∗ levAts L lv)

instance ctx_persistent : BI.Persistent (ctx X κ c) := by unfold ctx; infer_instance

theorem records_inv {g : GSem nD τ sig} (hg : g ∈ barCells ∪ linkCells) : records X κ ⊢ cellInv ER (talk X) (κ g) g := by
  unfold records; iintro ⟨H, -⟩; iapply (one_of hg fun g => cellInv ER (talk X) (κ g) g); iexact H
theorem records_bar (d : Dev nD) : records X κ ⊢ reached ER (barCell d) 0 := by
  unfold records; iintro ⟨-, H⟩; iapply (one_of (Finset.mem_map_of_mem barEmb (Finset.mem_univ d)) fun g => (reached ER g 0 : sProp 𝕄)); iexact H
theorem ctx_inv {g : GSem nD τ sig} (hg : g ∈ barCells ∪ linkCells) : ctx X κ c ⊢ cellInv ER (talk X) (κ g) g := by
  unfold ctx; iintro ⟨H, -⟩; iapply (records_inv X κ hg); iexact H
theorem ctx_bar (d : Dev nD) : ctx X κ c ⊢ reached ER (barCell d) 0 := by
  unfold ctx; iintro ⟨H, -⟩; iapply (records_bar X κ d); iexact H
theorem ctx_send (j : J) : ctx X κ c ⊢ reached ER (sendCell c j) 0 := by
  unfold ctx; iintro ⟨-, H, -⟩; iapply (sepL_at (fun j => reached ER (sendCell c j) 0) (mem_all j)); iexact H
theorem ctx_recv (j : J) : ctx X κ c ⊢ reached ER (recvCell c j) 0 := by
  unfold ctx; iintro ⟨-, -, H, -⟩; iapply (sepL_at (fun j => reached ER (recvCell c j) 0) (mem_all j)); iexact H
theorem ctx_lev : ctx X κ c ⊢ levAts L lv := by
  unfold ctx; iintro ⟨-, -, -, H⟩; iexact H

/-- What a program leads to. -/
abbrev leads (p : KProg F) (Kt : PUnit → sProp 𝕄) : sProp 𝕄 :=
  wp frame (wpE (defs₀ (F := F)) 𝒱 (c : Thread nD τ) none) Set.univ p Kt

/-- The signals: each gives the far device the own row its copy is to land in. -/
theorem signals_run (js : List J) (O : CellTallies nD τ sig Unit) (W : Waits sig Unit) (k : KProg F) (Kt : PUnit → sProp 𝕄) :
    iprop(ctx X κ c ∗ owes (c : Thread nD τ) (owed (oB c) js + O) W
        ∗ sepL (fun j => dutyTok ER (barCell (peer j c)) 0 (rev j)) js ∗ sepL (fun j => iprop(∃ f, dstPts c (rev j) f)) js)
      ⊢ iprop((owes (c : Thread nD τ) O W -∗ leads 𝒱 c k Kt) -∗ leads 𝒱 c (signals c js k) Kt) := by
  induction js with
  | nil =>
    have e : owed (oB c) [] + O = O := zero_add O
    rw [e]
    iintro ⟨-, HO, -, -⟩ Hk
    iapply Hk; iexact HO
  | cons j js ih =>
    rw [signals_cons]; simp only [sepL_cons]
    iintro ⟨#Hc, HO, ⟨Ht, Hts⟩, ⟨Hd, Hds⟩⟩ Hk
    have e : owed (oB c) (j :: js) + O = (owed (oB c) js + O) + tallyAt (barCell (peer j c)) () 1 := add_right_comm _ _ _
    iapply (Rounds.wp_signal 𝒱 ER (talk X) (c : Thread nD τ) none (dst := (peer j c : Thread nD τ)) (sem := barS) (r := 0) (d := rev j)
        (κ := κ (barCell (peer j c))) (by rw [duties_bar]; exact Finset.mem_univ _) (amount_bar X (peer j c) (rev j)) ()
        (owed (oB c) js + O) e) $$ [HO Ht Hd]
    · isplitr; · iapply (ctx_inv X κ c (bar_mem (peer j c))); iexact Hc
      isplitl [HO]; · iexact HO
      isplitl [Ht]; · iexact Ht
      isplitl [Hd]
      · rw [payload_bar]; unfold barPay; rw [peer_rev_peer]
        isplitl [Hd]; · iexact Hd
        iapply (ctx_recv X κ c (rev j)); iexact Hc
      · iapply (ctx_bar X κ c (peer j c)); iexact Hc
    iintro HO
    iapply ih $$ [HO Hts Hds]
    · isplitr; · iexact Hc
      isplitl [HO]; · iexact HO
      isplitl [Hts] <;> iassumption
    iexact Hk

/-- The copies: each spends the share of its source row and the far device's row, and leaves a credit on its own send cell. -/
theorem copies_run (js : List J) (O : CellTallies nD τ sig Unit) (W : Waits sig Unit) (k : KProg F) (Kt : PUnit → sProp 𝕄) :
    iprop(ctx X κ c ∗ owes (c : Thread nD τ) (owed (oR c) js + O) W
        ∗ sepL (fun j => sendPay X c j) js ∗ sepL (fun j => barPay c j) js
        ∗ sepL (fun j => dutyTok ER (sendCell c j) 0 one) js ∗ sepL (fun j => dutyTok ER (recvCell (peer j c) j) 0 one) js)
      ⊢ iprop(((owes (c : Thread nD τ) O W ∗ sepL (fun j => cred (tallyAt (sendCell c j) () (N j))) js) -∗ leads 𝒱 c k Kt)
          -∗ leads 𝒱 c (copies c js k) Kt) := by
  induction js generalizing Kt with
  | nil =>
    have e : owed (oR c) [] + O = O := zero_add O
    rw [e]
    simp only [sepL_nil]
    iintro ⟨-, HO, -⟩ Hk
    iapply Hk; isplitl [HO]; · iexact HO
    iempintro
  | cons j js ih =>
    rw [copies_cons]; simp only [sepL_cons]
    iintro ⟨#Hc, HO, ⟨Hs, Hss⟩, ⟨Hd, Hds⟩, ⟨Ht, Hts⟩, ⟨Hu, Hus⟩⟩ Hk
    have e : owed (oR c) (j :: js) + O = (owed (oR c) js + O) + tallyAt (recvCell (peer j c) j) () (N j) := add_right_comm _ _ _
    unfold barPay sendPay srcPts
    icases Hd with ⟨⟨%f, Hd⟩, #Hr⟩
    unfold dstPts
    iapply (Rounds.wp_send_pointsTo 𝒱 ER (talk X) (c : Thread nD τ) none (c' := (peer j c : Thread nD τ)) (src := srcM j) (dst := dstM j)
        (sS := .dma (sS j)) (sem := .dma (rS j)) (q := tok j) (fs := CS X c j) (κ₁ := κ (sendCell c j)) (κ₂ := κ (recvCell (peer j c) j))
        (r₁ := 0) (r₂ := 0) (d₁ := one) (d₂ := one) (fd := f)
        (by rw [duties_send]; exact Finset.mem_singleton_self _) (by rw [duties_recv]; exact Finset.mem_singleton_self _)
        () () (N j) rfl (amount_send X c j one) (amount_recv X (peer j c) j one) (owed (oR c) js + O) e (W := W)
        (by rw [payload_send]; exact BI.Entails.refl _)
        (by rw [payload_recv]; exact Entails.of_eq (pointsTo_congr (lands_eq X c j f)))) $$ [Hs Hd HO Ht Hu]
    · isplitr; · iapply (ctx_inv X κ c (send_mem c j)); iexact Hc
      isplitr; · iapply (ctx_inv X κ c (recv_mem (peer j c) j)); iexact Hc
      isplitl [Hs]; · iexact Hs
      isplitl [Hd]; · iexact Hd
      isplitl [HO]; · iexact HO
      isplitl [Ht]; · iexact Ht
      isplitr; · iapply (ctx_send X κ c j); iexact Hc
      isplitl [Hu]; · iexact Hu
      iexact Hr
    iintro ⟨Hcr, HO⟩
    iapply (ih Kt) $$ [HO Hss Hds Hts Hus]
    · isplitr; · iexact Hc
      isplitl [HO]; · iexact HO
      isplitl [Hss]; · iexact Hss
      isplitl [Hds]; · iexact Hds
      isplitl [Hts] <;> iassumption
    iintro ⟨HO, Hcs⟩
    iapply Hk
    isplitl [HO]; · iexact HO
    isplitl [Hcr] <;> iassumption

/-- The waits on one cell of each link: each brings its round's payload. -/
theorem waits_run (sem : J → DmaSem sig) (a b : J → Memref sig .tc .vmem S1024 .f32) (ha : ∀ j, (a j).view.WordExact)
    (hb : ∀ j, (b j).view.WordExact) (Pay : J → sProp 𝕄) (O : CellTallies nD τ sig Unit)
    (hmem : ∀ j, ((c : Thread nD τ), SemLoc.dma (sem j)) ∈ barCells ∪ linkCells)
    (hexp : ∀ j, (b j).view.dmaCredit = (talk X).expect ((c : Thread nD τ), SemLoc.dma (sem j)) 0)
    (hN : ∀ j, (b j).view.dmaCredit = N j)
    (hpay : ∀ j, bigSep ((talk X).duties ((c : Thread nD τ), SemLoc.dma (sem j)) 0 \ ∅) (fun d => (talk X).payload ((c : Thread nD τ), SemLoc.dma (sem j)) 0 d) = Pay j)
    (js : List J) (hmay : ∀ j ∈ js, (levAts L lv : sProp 𝕄) ⊢ MayWait (c : Thread nD τ) (.dma (sem j)) () O)
    (k : KProg F) (Kt : PUnit → sProp 𝕄) :
    iprop(ctx X κ c ∗ (∃ W, owes (c : Thread nD τ) O W)
        ∗ sepL (fun j => cred (tallyAt ((c : Thread nD τ), SemLoc.dma (sem j)) () (N j))) js
        ∗ sepL (fun j => atPos ER ((c : Thread nD τ), SemLoc.dma (sem j)) 0 ∅ 0) js)
      ⊢ iprop((((∃ W, owes (c : Thread nD τ) O W) ∗ sepL (fun j => atPos ER ((c : Thread nD τ), SemLoc.dma (sem j)) (0 + 1) ∅ 0) js
            ∗ sepL Pay js) -∗ leads 𝒱 c k Kt)
          -∗ leads 𝒱 c (waits sem a b ha hb js k) Kt) := by
  induction js generalizing Kt with
  | nil =>
    simp only [sepL_nil]
    iintro ⟨-, HO, -⟩ Hk
    iapply Hk; isplitl [HO]; · iexact HO
    isplitr
    · iempintro
    · iempintro
  | cons j js ih =>
    have hl := @ctx_lev F _ X κ c
    have hm := hmay j List.mem_cons_self
    have hmw := hl.trans hm
    rw [waits_cons]; simp only [sepL_cons]
    iintro ⟨#Hc, ⟨%W, HO⟩, ⟨Hcr, Hcrs⟩, ⟨Hat, Hats⟩⟩ Hk
    iapply (Rounds.wp_wait_rest_token 𝒱 ER (talk X) (c : Thread nD τ) none (κ := κ ((c : Thread nD τ), SemLoc.dma (sem j)))
        (wpE_waitDma2_eq (src := a j) (dst := b j) 𝒱 (c : Thread nD τ) none Set.univ) (Set.mem_univ _) () (O := O) (W := W) (R := 0) (m := 0) (T := ∅)
        ((Nat.zero_add _).trans (hexp j))) $$ [Hcr HO Hat]
    · isplitr; · iapply (ctx_inv X κ c (hmem j)); iexact Hc
      isplitl [Hcr]; · rw [hN j]; iexact Hcr
      isplitl [HO]; · iexact HO
      isplitr; · iapply hmw; iexact Hc
      iexact Hat
    iintro ⟨HO, Hat, -, Hp⟩
    ihave Hp := (Entails.of_eq (hpay j)) $$ Hp
    iapply (ih (fun i hi => hmay i (List.mem_cons_of_mem _ hi)) Kt) $$ [HO Hcrs Hats]
    · isplitr; · iexact Hc
      isplitl [HO]; · iexists _; iexact HO
      isplitl [Hcrs] <;> iassumption
    iintro ⟨HO, Hats, Hps⟩
    iapply Hk
    isplitl [HO]; · iexact HO
    isplitl [Hat Hats]; · isplitl [Hat] <;> iassumption
    isplitl [Hp] <;> iassumption

/-- Closing the cells of a list of links: each counter back at zero. -/
theorem closes (sem : J → DmaSem sig) (hmem : ∀ j, ((c : Thread nD τ), SemLoc.dma (sem j)) ∈ barCells ∪ linkCells) (js : List J) :
    iprop(ctx X κ c ∗ sepL (fun j => atPos ER ((c : Thread nD τ), SemLoc.dma (sem j)) (0 + 1) ∅ 0) js)
      ⊢ (|={Set.univ}=> sepL (fun j => semVal ((c : Thread nD τ), SemLoc.dma (sem j)) 0) js : sProp 𝕄) := by
  induction js with
  | nil => iintro ⟨-, H⟩; imodintro; iexact H
  | cons j js ih =>
    simp only [sepL_cons]
    iintro ⟨#Hc, ⟨Hat, Hats⟩⟩
    imod (close X (κ ((c : Thread nD τ), SemLoc.dma (sem j))) ((c : Thread nD τ), SemLoc.dma (sem j))) $$ [Hat] with H0
    · isplitr; · iapply (ctx_inv X κ c (hmem j)); iexact Hc
      iexact Hat
    imod ih $$ [Hats] with Hs
    · isplitr; · iexact Hc
      iexact Hats
    imodintro
    isplitl [H0] <;> iassumption

end Phases

end Cert.Rms
-- ==== Proof.Body.lean ====
/-
  The body, run once at a device nobody fixed, over any values: what the device holds when it starts, what it holds at each
  stage, and what it hands back.
-/
module

public import proofs.«01_k».proof.Proof.Phases
public import Idealize.ShloMosaic.Lib.Transfers

@[expose] public section

noncomputable section

namespace Cert.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

local notation "𝕄" => MT nD τ sig Unit (Elt F) ℕ UU ℕ

/-! ## A buffer as its rows, and a row as its shares -/

section Rows

omit [FloatOps F]

theorem plane_eq (Φ : J → sProp 𝕄) : sepL Φ planeL = bigSep Finset.univ fun p : Fin 7 => Φ (.inl p) := by
  rw [sepL_eq Φ planeL (by decide), show planeL.toFinset = (Finset.univ : Finset (Fin 7)).map ⟨Sum.inl, Sum.inl_injective⟩ by decide,
    BI.bigSep_map]
  rfl
theorem across_eq (Φ : J → sProp 𝕄) : sepL Φ acrossL = bigSep Finset.univ fun z : Fin 3 => Φ (.inr z) := by
  rw [sepL_eq Φ acrossL (by decide), show acrossL.toFinset = (Finset.univ : Finset (Fin 3)).map ⟨Sum.inr, Sum.inr_injective⟩ by decide,
    BI.bigSep_map]
  rfl
theorem all_split (Φ : J → sProp 𝕄) : sepL Φ allL ⊣⊢ iprop(sepL Φ planeL ∗ sepL Φ acrossL) := sepL_append Φ planeL acrossL

/-- A buffer whose elements lie in `n + 1` rows is its row 0 and the others. -/
theorem rows {n : ℕ} {ℓ : Loc nD τ sig} (K : Fin (n + 1) → Finset (Idx ℓ)) (row : Idx ℓ → Fin (n + 1)) (hK : ∀ i r, i ∈ K r ↔ row i = r)
    (q : PosShare TreeShare) (f : Buf (Elt F) ℓ) :
    (ℓ ↦[Finset.univ]{q} f : sProp 𝕄) = iprop((ℓ ↦[K 0]{q} f) ∗ bigSep Finset.univ fun p : Fin n => ℓ ↦[K p.succ]{q} f) := by
  rw [← pointsTo_biUnion (Finset.univ : Finset (Fin n)) (fun p => K p.succ)
    (fun a _ b _ hab => Finset.disjoint_left.mpr fun i hi hj =>
      hab (Fin.succ_injective _ (((hK i _).mp hi).symm.trans ((hK i _).mp hj))))]
  have hd : Disjoint (K 0) (Finset.univ.biUnion fun p : Fin n => K p.succ) := Finset.disjoint_left.mpr fun i hi hj => by
    obtain ⟨p, -, hp⟩ := Finset.mem_biUnion.mp hj
    exact (Fin.succ_ne_zero p) (((hK i _).mp hp).symm.trans ((hK i _).mp hi))
  have hu : (Finset.univ : Finset (Idx ℓ)) = K 0 ∪ Finset.univ.biUnion fun p : Fin n => K p.succ := by
    ext i
    refine ⟨fun _ => ?_, fun _ => Finset.mem_univ i⟩
    rcases Fin.eq_zero_or_eq_succ (row i) with h | ⟨p, h⟩
    · exact Finset.mem_union_left _ ((hK i _).mpr h)
    · exact Finset.mem_union_right _ (Finset.mem_biUnion.mpr ⟨p, Finset.mem_univ p, (hK i _).mpr h⟩)
  rw [hu]
  exact BI.Entails.antisymm (pointsTo_union hd).1 (pointsTo_union hd).2

abbrev K1 (r : Fin 8) : Finset S8x1024.Idx := (row1 r).view.set
abbrev K2 (r : Fin 4) : Finset S4x1024.Idx := (row2 r).view.set
theorem K1_mem (i : S8x1024.Idx) (r : Fin 8) : i ∈ K1 r ↔ (i 0 : Fin 8) = r := by
  rw [show K1 r = _ from row1_set r, Finset.mem_filter]
  exact ⟨fun h => Fin.ext h.2, fun h => ⟨Finset.mem_univ _, congrArg Fin.val h⟩⟩
theorem K2_mem (i : S4x1024.Idx) (r : Fin 4) : i ∈ K2 r ↔ (i 0 : Fin 4) = r := by
  rw [show K2 r = _ from row2_set r, Finset.mem_filter]
  exact ⟨fun h => Fin.ext h.2, fun h => ⟨Finset.mem_univ _, congrArg Fin.val h⟩⟩

variable (c : Dev nD)

def xPts (f : Buf (Elt F) (xM.view.loc (c : Thread nD τ))) : sProp 𝕄 := xM.view.loc (c : Thread nD τ) ↦[Finset.univ]{fullShare} f
def gPts (f : Buf (Elt F) (gM.view.loc (c : Thread nD τ))) : sProp 𝕄 := gM.view.loc (c : Thread nD τ) ↦[Finset.univ]{fullShare} f
def oPts (f : Buf (Elt F) (oM.view.loc (c : Thread nD τ))) : sProp 𝕄 := oM.view.loc (c : Thread nD τ) ↦[Finset.univ]{fullShare} f
def aPts (q : PosShare TreeShare) (f : Buf (Elt F) (aM.view.loc (c : Thread nD τ))) : sProp 𝕄 := aM.view.loc (c : Thread nD τ) ↦[Finset.univ]{q} f
def bPts (q : PosShare TreeShare) (f : Buf (Elt F) (bM.view.loc (c : Thread nD τ))) : sProp 𝕄 := bM.view.loc (c : Thread nD τ) ↦[Finset.univ]{q} f
def aRow (r : Fin 8) (q : PosShare TreeShare) (f : Buf (Elt F) (aM.view.loc (c : Thread nD τ))) : sProp 𝕄 := aM.view.loc (c : Thread nD τ) ↦[K1 r]{q} f
def bRow (r : Fin 4) (q : PosShare TreeShare) (f : Buf (Elt F) (bM.view.loc (c : Thread nD τ))) : sProp 𝕄 := bM.view.loc (c : Thread nD τ) ↦[K2 r]{q} f

theorem aPts_rows (q : PosShare TreeShare) (f) : aPts (F := F) c q f = iprop(aRow c 0 q f ∗ bigSep Finset.univ fun p : Fin 7 => aRow c p.succ q f) :=
  rows (ℓ := aM.view.loc (c : Thread nD τ)) (n := 7) K1 (fun i => i 0) K1_mem q f
theorem bPts_rows (q : PosShare TreeShare) (f) : bPts (F := F) c q f = iprop(bRow c 0 q f ∗ bigSep Finset.univ fun p : Fin 3 => bRow c p.succ q f) :=
  rows (ℓ := bM.view.loc (c : Thread nD τ)) (n := 3) K2 (fun i => i 0) K2_mem q f

/-- A full row is what remains of it after `n` tokens, and the tokens. -/
theorem aRow_toks (r : Fin 8) (n : ℕ) (f) : aRow (F := F) c r fullShare f
    ⊣⊢ iprop(aRow c r (shareDrop fullShare n) f ∗ bigSep Finset.univ fun i : Fin n => aRow c r (shareTok fullShare n i) f) :=
  Transfers.pointsTo_toks fullShare n
theorem bRow_toks (r : Fin 4) (n : ℕ) (f) : bRow (F := F) c r fullShare f
    ⊣⊢ iprop(bRow c r (shareDrop fullShare n) f ∗ bigSep Finset.univ fun i : Fin n => bRow c r (shareTok fullShare n i) f) :=
  Transfers.pointsTo_toks fullShare n

/-- What is kept aside of the landed rows while a buffer is read whole at row 0's remaining share. -/
def aside1 (f : Buf (Elt F) (aM.view.loc (c : Thread nD τ))) : sProp 𝕄 := bigSep Finset.univ fun p : Fin 7 => bigSep Finset.univ fun i : Fin 7 => aRow c p.succ (shareTok fullShare 7 i) f
def aside2 (f : Buf (Elt F) (bM.view.loc (c : Thread nD τ))) : sProp 𝕄 := bigSep Finset.univ fun z : Fin 3 => bigSep Finset.univ fun i : Fin 3 => bRow c z.succ (shareTok fullShare 3 i) f

theorem gather1 (f) : iprop(aRow (F := F) c 0 (shareDrop fullShare 7) f ∗ bigSep Finset.univ fun p : Fin 7 => aRow c p.succ fullShare f)
    ⊣⊢ iprop(aPts c (shareDrop fullShare 7) f ∗ aside1 c f) := by
  have e : (bigSep Finset.univ fun p : Fin 7 => aRow (F := F) c p.succ fullShare f)
      = iprop((bigSep Finset.univ fun p : Fin 7 => aRow c p.succ (shareDrop fullShare 7) f) ∗ aside1 c f) := by
    exact (BI.bigSep_congr fun p _ => BI.Entails.antisymm (aRow_toks c p.succ 7 f).1 (aRow_toks c p.succ 7 f).2).trans (BI.bigSep_sep _ _ _)
  rw [aPts_rows, e]
  constructor
  · iintro ⟨H, H1, H2⟩; isplitr [H2]; · isplitl [H] <;> iassumption
    iexact H2
  · iintro ⟨⟨H, H1⟩, H2⟩; isplitl [H]; · iexact H
    isplitl [H1] <;> iassumption
theorem gather2 (f) : iprop(bRow (F := F) c 0 (shareDrop fullShare 3) f ∗ bigSep Finset.univ fun p : Fin 3 => bRow c p.succ fullShare f)
    ⊣⊢ iprop(bPts c (shareDrop fullShare 3) f ∗ aside2 c f) := by
  have e : (bigSep Finset.univ fun p : Fin 3 => bRow (F := F) c p.succ fullShare f)
      = iprop((bigSep Finset.univ fun p : Fin 3 => bRow c p.succ (shareDrop fullShare 3) f) ∗ aside2 c f) := by
    exact (BI.bigSep_congr fun p _ => BI.Entails.antisymm (bRow_toks c p.succ 3 f).1 (bRow_toks c p.succ 3 f).2).trans (BI.bigSep_sep _ _ _)
  rw [bPts_rows, e]
  constructor
  · iintro ⟨H, H1, H2⟩; isplitr [H2]; · isplitl [H] <;> iassumption
    iexact H2
  · iintro ⟨⟨H, H1⟩, H2⟩; isplitl [H]; · iexact H
    isplitl [H1] <;> iassumption

theorem dst_inl (p : Fin 7) (f : Buf (Elt F) (aM.view.loc (c : Thread nD τ))) : dstPts c (.inl p) f = aRow c p.succ fullShare f := rfl
theorem dst_inr (z : Fin 3) (f : Buf (Elt F) (bM.view.loc (c : Thread nD τ))) : dstPts c (.inr z) f = bRow c z.succ fullShare f := rfl
theorem src_inl (p : Fin 7) (f : Buf (Elt F) (aM.view.loc (c : Thread nD τ))) : srcPts c (.inl p) f = aRow c 0 (shareTok fullShare 7 p) f := rfl
theorem src_inr (z : Fin 3) (f : Buf (Elt F) (bM.view.loc (c : Thread nD τ))) : srcPts c (.inr z) f = bRow c 0 (shareTok fullShare 3 z) f := rfl

/-- A family held together, each member weakened. -/
theorem each {M I : Type} [URA M] {s : Finset I} {Φ Ψ : I → sProp M} (h : ∀ i ∈ s, Φ i ⊢ Ψ i) : bigSep s Φ ⊢ bigSep s Ψ := BI.bigSep_mono h

/-- Both buffers as their rows 0 and the rows the links land in. -/
theorem give_rows (f g) : iprop(aPts (F := F) c fullShare f ∗ bPts c fullShare g)
    ⊢ iprop(aRow c 0 fullShare f ∗ bRow c 0 fullShare g ∗ sepL (fun j => iprop(∃ h, dstPts c j h)) allL) := by
  rw [aPts_rows, bPts_rows]
  iintro ⟨⟨Ha, Has⟩, Hb, Hbs⟩
  isplitl [Ha]; · iexact Ha
  isplitl [Hb]; · iexact Hb
  iapply (all_split (fun j => iprop(∃ h, dstPts (F := F) c j h))).2
  rw [plane_eq, across_eq]
  isplitl [Has]
  · iapply (each (s := (Finset.univ : Finset (Fin 7))) fun p _ =>
      (show aRow (F := F) c p.succ fullShare f ⊢ iprop(∃ h, dstPts c (.inl p) h) by iintro H; iexists f; rw [dst_inl]; iexact H))
    iexact Has
  · iapply (each (s := (Finset.univ : Finset (Fin 3))) fun z _ =>
      (show bRow (F := F) c z.succ fullShare g ⊢ iprop(∃ h, dstPts c (.inr z) h) by iintro H; iexists g; rw [dst_inr]; iexact H))
    iexact Hbs

/-- `rev` on the links. -/
def revE : J ≃ J := ⟨rev, rev, rev_rev, rev_rev⟩
theorem all_rev (Φ : J → sProp 𝕄) : sepL (fun j => Φ (rev j)) allL = sepL Φ allL := by
  rw [← all_eq, ← all_eq]
  exact (bigSep_univ_equiv revE Φ).symm

end Rows

/-! ## The run -/

section Run

variable (𝒱 : Variants) (X : Dev nD → Vec F S1024x512 .f32) (G : Dev nD → Vec F S1x512 .f32) (κ : GSem nD τ sig → ℕ) (c : Dev nD)

theorem lend1 : aRow c 0 fullShare (C1 X c) ⊣⊢ iprop(aRow c 0 (shareDrop fullShare 7) (C1 X c) ∗ sepL (fun j => sendPay X c j) planeL) := by
  rw [plane_eq]; exact aRow_toks c 0 7 (C1 X c)
theorem lend2 : bRow c 0 fullShare (C2 X c) ⊣⊢ iprop(bRow c 0 (shareDrop fullShare 3) (C2 X c) ∗ sepL (fun j => sendPay X c j) acrossL) := by
  rw [across_eq]; exact bRow_toks c 0 3 (C2 X c)
theorem landed1 : sepL (fun j => recvPay X c j) planeL = bigSep Finset.univ fun p : Fin 7 => aRow c p.succ fullShare (C1 X c) := by
  rw [plane_eq]; rfl
theorem landed2 : sepL (fun j => recvPay X c j) acrossL = bigSep Finset.univ fun z : Fin 3 => bRow c z.succ fullShare (C2 X c) := by
  rw [across_eq]; rfl

theorem set_rA0 : (aM.access rA0).set = K1 0 :=
  (View.set_slice_whole cc0_scratch0 rA0).trans ((View.set_reshape _ _).trans (View.set_slice_whole cc0_scratch0 (rowR1 0))).symm
theorem set_rB0 : (bM.access rB0).set = K2 0 :=
  (View.set_slice_whole cc0_scratch1 rB0).trans ((View.set_reshape _ _).trans (View.set_slice_whole cc0_scratch1 (rowR2 0))).symm

theorem stored1 (f : Buf (Elt F) (aM.view.loc (c : Thread nD τ))) :
    ∀ i ∈ K1 0, (aM.access rA0).write (Elt F) f (k0_pay2 (X c)) Finset.univ i = C1 X c i := by
  intro i hi
  rw [← set_rA0] at hi
  obtain ⟨y, -, rfl⟩ := Finset.mem_map.mp hi
  rw [View.write_emb_of_mem (h := Finset.mem_univ y)]
  show part X c y = C1 X c ((rowR1 0).emb y)
  rw [C1_row, from1_zero]
theorem stored2 (f : Buf (Elt F) (bM.view.loc (c : Thread nD τ))) :
    ∀ i ∈ K2 0, (bM.access rB0).write (Elt F) f (k0_pay4 (C1 X c)) Finset.univ i = C2 X c i := by
  intro i hi
  rw [← set_rB0] at hi
  obtain ⟨y, -, rfl⟩ := Finset.mem_map.mp hi
  rw [View.write_emb_of_mem (h := Finset.mem_univ y)]
  show plane X c y = C2 X c ((rowR2 0).emb y)
  rw [C2_row, from2_zero]

theorem put1 (f : Buf (Elt F) (aM.view.loc (c : Thread nD τ))) :
    ((aM.access rA0).loc (c : Thread nD τ) ↦[K1 0]{fullShare} (aM.access rA0).write (Elt F) f (k0_pay2 (X c)) Finset.univ)
      ⊢ aRow c 0 fullShare (C1 X c) := Entails.of_eq (pointsTo_congr (stored1 X c f))
theorem put2 (f : Buf (Elt F) (bM.view.loc (c : Thread nD τ))) :
    ((bM.access rB0).loc (c : Thread nD τ) ↦[K2 0]{fullShare} (bM.access rB0).write (Elt F) f (k0_pay4 (C1 X c)) Finset.univ)
      ⊢ bRow c 0 fullShare (C2 X c) := Entails.of_eq (pointsTo_congr (stored2 X c f))

theorem zz : (![0, 0] : Fin 2 → ℕ) = fun _ => 0 := by
  funext i; refine Fin.cases rfl (fun j => ?_) i; rw [Subsingleton.elim j 0]; rfl

/-- The product with the scale row, before it is normalised, and the result. -/
def scaled : Vec F S1024x512 .f32 := k0_pay3 (k0_pay1 (X c)) (G c)
def result : Vec F S1024x512 .f32 := k0_pay5 (C2 X c) (scaled X G c)

/-- From the landing of the second exchange to the end. -/
theorem tail_run (Kt : PUnit → sProp 𝕄) :
    iprop(ctx X κ c ∗ (∃ W, owes (c : Thread nD τ) 0 W) ∗ bPts c (shareDrop fullShare 3) (C2 X c) ∗ oPts c (scaled X G c)
        ∗ sepL (fun j => cred (tallyAt (sendCell c j) () (N j))) allL ∗ sepL (fun j => atPos ER (sendCell c j) 0 ∅ 0) allL)
      ⊢ iprop((((∃ W, owes (c : Thread nD τ) 0 W) ∗ sepL (fun j => atPos ER (sendCell c j) (0 + 1) ∅ 0) allL
            ∗ sepL (fun j => sendPay X c j) allL ∗ bPts c (shareDrop fullShare 3) (C2 X c) ∗ oPts c (result X G c))
          -∗ leads 𝒱 c (.ret ⟨⟩) Kt) -∗ leads 𝒱 c tail Kt) := by
  unfold tail bPts oPts
  iintro ⟨#Hc, HO, Hb, Ho, Hcr, Hat⟩ Hk
  iapply (wp_load 𝒱 (c : Thread nD τ) none Set.univ (m := bM) (Finset.subset_univ _)) $$ Hb; iintro Hb
  rw [show bM.view.readAt (Elt F) rB.toLoadRect (C2 X c) = C2 X c from Memref.readAt_unit_zero (Elt F) cc0_scratch1 zz _ (C2 X c)]
  iapply (wp_load 𝒱 (c : Thread nD τ) none Set.univ (m := oM) (Finset.subset_univ _)) $$ Ho; iintro Ho
  rw [show oM.view.readAt (Elt F) rX.toLoadRect (scaled X G c) = scaled X G c from Memref.readAt_unit_zero (Elt F) cc0_stg2_0 zz _ (scaled X G c)]
  iapply (wp_load 𝒱 (c : Thread nD τ) none Set.univ (m := oM) (Finset.subset_univ _)) $$ Ho; iintro Ho
  iapply (wp_store 𝒱 (c : Thread nD τ) none Set.univ (m := oM) (r := rX) (Mk := Finset.univ) (Finset.subset_univ _)) $$ Ho; iintro Ho
  rw [show (oM.access rX).write (Elt F) (scaled X G c) (k0_pay5 (C2 X c) (scaled X G c)) Finset.univ = result X G c
    from Memref.write_access_unit_zero_univ (Elt F) cc0_stg2_0 zz _ _ _]
  iapply (waits_run 𝒱 X κ c sS dstM srcM dst_word src_word (fun j => sendPay X c j) 0 (send_mem c)
      (fun j => (N_src j).trans (expect_send X c j).symm) N_src (rest_send X c) allL
      (fun j _ => by rw [MayWait_zero]; iintro -; iempintro) (.ret ⟨⟩) Kt) $$ [HO Hcr Hat]
  · isplitr; · iexact Hc
    isplitl [HO]; · iexact HO
    isplitl [Hcr] <;> iassumption
  iintro ⟨HO, Hat, Hs⟩
  iapply Hk
  isplitl [HO]; · iexact HO
  isplitl [Hat]; · iexact Hat
  isplitl [Hs]; · iexact Hs
  isplitl [Hb] <;> iassumption

/-- From the landing of the first exchange to the end. -/
theorem second_run (Kt : PUnit → sProp 𝕄) (f : Buf (Elt F) (bM.view.loc (c : Thread nD τ))) :
    iprop(ctx X κ c ∗ (∃ W, owes (c : Thread nD τ) (O₂ c) W) ∗ aRow c 0 (shareDrop fullShare 7) (C1 X c) ∗ sepL (fun j => recvPay X c j) planeL
        ∗ bRow c 0 fullShare f ∗ oPts c (scaled X G c) ∗ sepL (fun j => barPay c j) acrossL
        ∗ sepL (fun j => dutyTok ER (sendCell c j) 0 one) acrossL ∗ sepL (fun j => dutyTok ER (recvCell (peer j c) j) 0 one) acrossL
        ∗ sepL (fun j => cred (tallyAt (recvCell c j) () (N j))) acrossL ∗ sepL (fun j => atPos ER (recvCell c j) 0 ∅ 0) acrossL
        ∗ sepL (fun j => cred (tallyAt (sendCell c j) () (N j))) planeL ∗ sepL (fun j => atPos ER (sendCell c j) 0 ∅ 0) allL)
      ⊢ iprop((((∃ W, owes (c : Thread nD τ) 0 W) ∗ sepL (fun j => atPos ER (sendCell c j) (0 + 1) ∅ 0) allL
            ∗ sepL (fun j => sendPay X c j) allL ∗ (aPts c (shareDrop fullShare 7) (C1 X c) ∗ aside1 c (C1 X c))
            ∗ (bPts c (shareDrop fullShare 3) (C2 X c) ∗ aside2 c (C2 X c)) ∗ oPts c (result X G c)
            ∗ sepL (fun j => atPos ER (recvCell c j) (0 + 1) ∅ 0) acrossL)
          -∗ leads 𝒱 c (.ret ⟨⟩) Kt) -∗ leads 𝒱 c (second c) Kt) := by
  unfold second
  iintro ⟨#Hc, ⟨%W, HO⟩, Ha0, Has, Hb, Ho, Hd, Ht, Hu, Hcr, Hat, Hcs, Hats⟩ Hk
  ihave Has := (Entails.of_eq (landed1 X c)) $$ Has
  ihave Ha := (gather1 c (C1 X c)).1 $$ [Ha0 Has]
  · isplitl [Ha0] <;> iassumption
  icases Ha with ⟨Ha, Hx⟩
  unfold aPts bRow
  iapply (wp_load 𝒱 (c : Thread nD τ) none Set.univ (m := aM) (Finset.subset_univ _)) $$ Ha; iintro Ha
  rw [show aM.view.readAt (Elt F) rA.toLoadRect (C1 X c) = C1 X c from Memref.readAt_unit_zero (Elt F) cc0_scratch0 zz _ (C1 X c)]
  iapply (wp_load_rect 𝒱 (c : Thread nD τ) none Set.univ (m := bM) (r := rB0) set_rB0.le) $$ Hb; iintro Hb
  iapply (wp_store 𝒱 (c : Thread nD τ) none Set.univ (m := bM) (r := rB0) (Mk := Finset.univ)
    ((View.setOn_univ _).trans set_rB0).le) $$ Hb; iintro Hb
  ihave Hb := (put2 X c f) $$ Hb
  ihave Hb := (lend2 X c).1 $$ Hb
  icases Hb with ⟨Hb0, Hss⟩
  rw [show O₂ c = owed (oR c) acrossL + 0 from (add_zero _).symm]
  iapply (copies_run 𝒱 X κ c acrossL 0 W (lands acrossL tail) Kt) $$ [HO Hss Hd Ht Hu]
  · isplitr; · iexact Hc
    isplitl [HO]; · iexact HO
    isplitl [Hss]; · iexact Hss
    isplitl [Hd]; · iexact Hd
    isplitl [Ht] <;> iassumption
  iintro ⟨HO, Hcs2⟩
  iapply (waits_run 𝒱 X κ c rS dstM dstM dst_word dst_word (fun j => recvPay X c j) 0 (recv_mem c)
      (fun j => (expect_recv X c j).symm) (fun _ => rfl) (rest_recv X c) acrossL
      (fun j _ => by rw [MayWait_zero]; iintro -; iempintro) tail Kt) $$ [HO Hcr Hat]
  · isplitr; · iexact Hc
    isplitl [HO]; · iexists W; iexact HO
    isplitl [Hcr] <;> iassumption
  iintro ⟨HO, Hat, Hbs⟩
  ihave Hbs := (Entails.of_eq (landed2 X c)) $$ Hbs
  ihave Hb := (gather2 c (C2 X c)).1 $$ [Hb0 Hbs]
  · isplitl [Hb0] <;> iassumption
  icases Hb with ⟨Hb, Hy⟩
  iapply (tail_run 𝒱 X G κ c Kt) $$ [HO Hb Ho Hcs Hcs2 Hats]
  · isplitr; · iexact Hc
    isplitl [HO]; · iexact HO
    isplitl [Hb]; · iexact Hb
    isplitl [Ho]; · iexact Ho
    isplitl [Hcs Hcs2]
    · iapply (all_split (fun j => cred (tallyAt (sendCell c j) () (N j)))).2
      isplitl [Hcs] <;> iassumption
    iexact Hats
  iintro ⟨HO, Hats, Hs, Hb, Ho⟩
  iapply Hk
  isplitl [HO]; · iexact HO
  isplitl [Hats]; · iexact Hats
  isplitl [Hs]; · iexact Hs
  isplitl [Ha Hx]; · isplitl [Ha] <;> iassumption
  isplitl [Hb Hy]; · isplitl [Hb] <;> iassumption
  isplitl [Ho] <;> iassumption

/-- What a device brings to the body of its links' cells and of its own buffers. -/
def bring : sProp 𝕄 :=
  iprop(ctx X κ c ∗ atPos ER (barCell c) 0 ∅ 0
    ∗ sepL (fun j => atPos ER (sendCell c j) 0 ∅ 0) allL ∗ sepL (fun j => atPos ER (recvCell c j) 0 ∅ 0) allL
    ∗ sepL (fun j => dutyTok ER (barCell (peer j c)) 0 (rev j)) allL
    ∗ sepL (fun j => dutyTok ER (sendCell c j) 0 one) allL ∗ sepL (fun j => dutyTok ER (recvCell (peer j c) j) 0 one) allL
    ∗ cred (tallyAt (barCell c) () 10) ∗ sepL (fun j => cred (tallyAt (recvCell c j) () (N j))) allL)

/-- And what it has back at the end: every counter at zero, the exchange buffers at contents nobody reads. -/
def back : sProp 𝕄 :=
  iprop(semVal (barCell c) 0 ∗ sepL (fun j => semVal (sendCell c j) 0) allL ∗ sepL (fun j => semVal (recvCell c j) 0) allL
    ∗ (∃ f, aPts c fullShare f) ∗ (∃ f, bPts c fullShare f))

/-- At the return, every cell is closed and the rows are joined again. -/
theorem finish (Kt : PUnit → sProp 𝕄) :
    iprop(ctx X κ c ∗ atPos ER (barCell c) (0 + 1) ∅ 0 ∗ sepL (fun j => atPos ER (sendCell c j) (0 + 1) ∅ 0) allL
        ∗ sepL (fun j => atPos ER (recvCell c j) (0 + 1) ∅ 0) allL ∗ sepL (fun j => sendPay X c j) allL
        ∗ (aPts c (shareDrop fullShare 7) (C1 X c) ∗ aside1 c (C1 X c)) ∗ (bPts c (shareDrop fullShare 3) (C2 X c) ∗ aside2 c (C2 X c)))
      ⊢ iprop((back c -∗ Kt ⟨⟩) -∗ leads 𝒱 c (.ret ⟨⟩) Kt) := by
  unfold leads
  rw [wp_ret]
  iintro ⟨#Hc, Hbar, Hs, Hr, Hpay, Ha, Hb⟩ Hk
  imod (close X (κ (barCell c)) (barCell c)) $$ [Hbar] with Hbar
  · isplitr; · iapply (ctx_inv X κ c (bar_mem c)); iexact Hc
    iexact Hbar
  imod (closes X κ c sS (send_mem c) allL) $$ [Hs] with Hs
  · isplitr; · iexact Hc
    iexact Hs
  imod (closes X κ c rS (recv_mem c) allL) $$ [Hr] with Hr
  · isplitr; · iexact Hc
    iexact Hr
  imodintro
  iapply Hk
  unfold back
  isplitl [Hbar]; · iexact Hbar
  isplitl [Hs]; · iexact Hs
  isplitl [Hr]; · iexact Hr
  ihave Hpay := (all_split (fun j => sendPay X c j)).1 $$ Hpay
  icases Hpay with ⟨Hp1, Hp2⟩
  ihave Ha := (gather1 c (C1 X c)).2 $$ Ha
  ihave Hb := (gather2 c (C2 X c)).2 $$ Hb
  icases Ha with ⟨Ha0, Has⟩
  icases Hb with ⟨Hb0, Hbs⟩
  isplitl [Ha0 Has Hp1]
  · iexists (C1 X c)
    rw [aPts_rows]
    isplitl [Ha0 Hp1]
    · iapply (lend1 X c).2
      isplitl [Ha0] <;> iassumption
    iexact Has
  · iexists (C2 X c)
    rw [bPts_rows]
    isplitl [Hb0 Hp2]
    · iapply (lend2 X c).2
      isplitl [Hb0] <;> iassumption
    iexact Hbs

/-- The whole body. -/
theorem prog_run (W : Waits sig Unit) (Kt : PUnit → sProp 𝕄) :
    iprop(bring X κ c ∗ owes (c : Thread nD τ) (O₀ c) W ∗ xPts c (X c) ∗ gPts c (G c) ∗ (∃ f, oPts c f)
        ∗ (∃ f, aPts c fullShare f) ∗ (∃ f, bPts c fullShare f))
      ⊢ iprop((((∃ W, owes (c : Thread nD τ) 0 W) ∗ back c ∗ xPts c (X c) ∗ gPts c (G c) ∗ oPts c (result X G c)) -∗ Kt ⟨⟩)
        -∗ leads 𝒱 c prog Kt) := by
  unfold prog bring
  simp only [wp_deviceId]
  iintro ⟨⟨#Hc, Hbar, Hsat, Hrat, Htb, Hts, Htr, Hcb, Hcr⟩, HO, Hx, Hg, ⟨%fo, Ho⟩, ⟨%fa, Ha⟩, ⟨%fb, Hb⟩⟩ Hk
  ihave Hab := (give_rows c fa fb) $$ [Ha Hb]
  · isplitl [Ha] <;> iassumption
  icases Hab with ⟨Ha, Hb, Hrows⟩
  ihave Hrows := (Entails.of_eq (all_rev (fun j => iprop(∃ h, dstPts (F := F) c j h))).symm) $$ Hrows
  -- the signals give the rows away
  iapply (signals_run 𝒱 X κ c allL (O₁ c) W) $$ [HO Htb Hrows]
  · isplitr; · iexact Hc
    isplitl [HO]; · iexact HO
    isplitl [Htb] <;> iassumption
  iintro HO
  -- the own sums of squares into row 0
  unfold xPts gPts oPts aRow
  iapply (wp_load 𝒱 (c : Thread nD τ) none Set.univ (m := xM) (Finset.subset_univ _)) $$ Hx; iintro Hx
  rw [show xM.view.readAt (Elt F) rX.toLoadRect (X c) = X c from Memref.readAt_unit_zero (Elt F) cc0_stg0_0 zz _ (X c)]
  iapply (wp_load_rect 𝒱 (c : Thread nD τ) none Set.univ (m := aM) (r := rA0) set_rA0.le) $$ Ha; iintro Ha
  iapply (wp_store 𝒱 (c : Thread nD τ) none Set.univ (m := aM) (r := rA0) (Mk := Finset.univ)
    ((View.setOn_univ _).trans set_rA0).le) $$ Ha; iintro Ha
  ihave Ha := (put1 X c fa) $$ Ha
  -- the barrier: every far device's row
  iapply (Rounds.wp_wait_rest_token 𝒱 ER (talk X) (c : Thread nD τ) none (κ := κ (barCell c))
      (wpE_semWait_eq 𝒱 (c : Thread nD τ) none Set.univ) (Set.mem_univ _) () (O := O₁ c) (W := W) (R := 0) (m := 0) (T := ∅)
      ((Nat.zero_add 10).trans (expect_bar X c).symm)) $$ [Hcb HO Hbar]
  · isplitr; · iapply (ctx_inv X κ c (bar_mem c)); iexact Hc
    isplitl [Hcb]; · iexact Hcb
    isplitl [HO]; · iexact HO
    isplitr; · iapply ((@ctx_lev F _ X κ c).trans (mayWait_bar c)); iexact Hc
    iexact Hbar
  iintro ⟨HO, Hbar, -, Hp⟩
  ihave Hp := (Entails.of_eq ((rest_bar X c).trans (all_eq (fun j => barPay (F := F) c j)))) $$ Hp
  ihave Hp := (all_split (fun j => barPay (F := F) c j)).1 $$ Hp
  icases Hp with ⟨Hp1, Hp2⟩
  ihave Hts := (all_split (fun j => dutyTok ER (sendCell c j) 0 one)).1 $$ Hts
  icases Hts with ⟨Hts1, Hts2⟩
  ihave Htr := (all_split (fun j => dutyTok ER (recvCell (peer j c) j) 0 one)).1 $$ Htr
  icases Htr with ⟨Htr1, Htr2⟩
  ihave Hcr := (all_split (fun j => cred (tallyAt (recvCell c j) () (N j)))).1 $$ Hcr
  icases Hcr with ⟨Hcr1, Hcr2⟩
  ihave Hrat := (all_split (fun j => atPos ER (recvCell c j) 0 ∅ 0)).1 $$ Hrat
  icases Hrat with ⟨Hrat1, Hrat2⟩
  ihave Ha := (lend1 X c).1 $$ Ha
  icases Ha with ⟨Ha0, Hss⟩
  iapply (copies_run 𝒱 X κ c planeL (O₂ c) _ (middle c (X c)) Kt) $$ [HO Hss Hp1 Hts1 Htr1]
  · isplitr; · iexact Hc
    isplitl [HO]; · iexact HO
    isplitl [Hss]; · iexact Hss
    isplitl [Hp1]; · iexact Hp1
    isplitl [Hts1] <;> iassumption
  iintro ⟨HO, Hcs⟩
  unfold middle
  -- the product with the scale row
  iapply (wp_load 𝒱 (c : Thread nD τ) none Set.univ (m := gM) (Finset.subset_univ _)) $$ Hg; iintro Hg
  rw [show gM.view.readAt (Elt F) rG.toLoadRect (G c) = G c from Memref.readAt_unit_zero (Elt F) cc0_stg1_0 zz _ (G c)]
  iapply (wp_load 𝒱 (c : Thread nD τ) none Set.univ (m := oM) (Finset.subset_univ _)) $$ Ho; iintro Ho
  iapply (wp_store 𝒱 (c : Thread nD τ) none Set.univ (m := oM) (r := rX) (Mk := Finset.univ) (Finset.subset_univ _)) $$ Ho; iintro Ho
  rw [show (oM.access rX).write (Elt F) fo (k0_pay3 (k0_pay1 (X c)) (G c)) Finset.univ = scaled X G c
    from Memref.write_access_unit_zero_univ (Elt F) cc0_stg2_0 zz _ _ _]
  iapply (waits_run 𝒱 X κ c rS dstM dstM dst_word dst_word (fun j => recvPay X c j) (O₂ c) (recv_mem c)
      (fun j => (expect_recv X c j).symm) (fun _ => rfl) (rest_recv X c) planeL
      (mayWait_planes c) (second c) Kt) $$ [HO Hcr1 Hrat1]
  · isplitr; · iexact Hc
    isplitl [HO]; · iexists _; iexact HO
    isplitl [Hcr1] <;> iassumption
  iintro ⟨HO, Hrat1, Has⟩
  iapply (second_run 𝒱 X G κ c Kt fb) $$ [HO Ha0 Has Hb Ho Hp2 Hts2 Htr2 Hcr2 Hrat2 Hcs Hsat]
  · isplitr; · iexact Hc
    isplitl [HO]; · iexact HO
    isplitl [Ha0]; · iexact Ha0
    isplitl [Has]; · iexact Has
    isplitl [Hb]; · iexact Hb
    isplitl [Ho]; · unfold oPts; iexact Ho
    isplitl [Hp2]; · iexact Hp2
    isplitl [Hts2]; · iexact Hts2
    isplitl [Htr2]; · iexact Htr2
    isplitl [Hcr2]; · iexact Hcr2
    isplitl [Hrat2]; · iexact Hrat2
    isplitl [Hcs] <;> iassumption
  iintro ⟨HO, Hsat, Hpay, Ha, Hb, Ho, Hrat2⟩
  iapply (finish 𝒱 X κ c Kt) $$ [Hbar Hsat Hrat1 Hrat2 Hpay Ha Hb]
  · isplitr; · iexact Hc
    isplitl [Hbar]; · iexact Hbar
    isplitl [Hsat]; · iexact Hsat
    isplitl [Hrat1 Hrat2]
    · iapply (all_split (fun j => atPos ER (recvCell c j) (0 + 1) ∅ 0)).2
      isplitl [Hrat1] <;> iassumption
    isplitl [Hpay]; · iexact Hpay
    isplitl [Ha] <;> iassumption
  iintro Hback
  iapply Hk
  isplitl [HO]; · iexact HO
  isplitl [Hback]; · iexact Hback
  isplitl [Hx]; · iexact Hx
  isplitl [Hg]; · iexact Hg
  unfold oPts; iexact Ho

end Run

end Cert.Rms
-- ==== Proof.Deal.lean ====
/-
  What every device is dealt before the first instruction: its places in the schedule, the duties it is to pay, and the
  credit it is owed, out of one allocation for all devices.
-/
module

public import proofs.«01_k».proof.Proof.Body
public import Idealize.ShloMosaic.Lib.Pipeline.Regions

@[expose] public section

noncomputable section

namespace Cert.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S1024x512 .f32) (κ : GSem nD τ sig → ℕ) (c : Dev nD)

/-! ## A device's part -/

/-- Its place at its barrier, the right to open its link cells, and the duties it pays. -/
def linear : sProp 𝕄 :=
  iprop(atPos ER (barCell c) 0 ∅ 0
    ∗ (sepL (fun j => openTok ER (sendCell c j)) allL ∗ sepL (fun j => openTok ER (recvCell c j)) allL)
    ∗ sepL (fun j => dutyTok ER (barCell (peer j c)) 0 (rev j)) allL
    ∗ sepL (fun j => dutyTok ER (sendCell c j) 0 one) allL ∗ sepL (fun j => dutyTok ER (recvCell (peer j c) j) 0 one) allL)

/-- The credit its waits use. -/
def credits : sProp 𝕄 :=
  iprop(cred (tallyAt (barCell c) () 10) ∗ sepL (fun j => cred (tallyAt (recvCell c j) () (N j))) allL)

/-- Opening the cells of a list of links. -/
theorem opens (sem : J → DmaSem sig) (hmem : ∀ j, ((c : Thread nD τ), SemLoc.dma (sem j)) ∈ barCells ∪ linkCells) (js : List J) :
    iprop(records X κ ∗ sepL (fun j => openTok ER ((c : Thread nD τ), SemLoc.dma (sem j))) js
        ∗ sepL (fun j => semVal ((c : Thread nD τ), SemLoc.dma (sem j)) 0) js)
      ⊢ (|={Set.univ}=> iprop(sepL (fun j => atPos ER ((c : Thread nD τ), SemLoc.dma (sem j)) 0 ∅ 0) js
          ∗ sepL (fun j => reached ER ((c : Thread nD τ), SemLoc.dma (sem j)) 0) js) : sProp 𝕄) := by
  induction js with
  | nil => simp only [sepL_nil]; iintro -; imodintro; isplitr <;> iempintro
  | cons j js ih =>
    simp only [sepL_cons]
    iintro ⟨#Hc, ⟨Ho, Hos⟩, ⟨H0, H0s⟩⟩
    imod (Rounds.cell_open ER (talk X) (g := ((c : Thread nD τ), SemLoc.dma (sem j)))
      (Set.mem_univ (κ ((c : Thread nD τ), SemLoc.dma (sem j))))) $$ [Ho H0] with ⟨Hat, Hr⟩
    · isplitr; · iapply (records_inv X κ (hmem j)); iexact Hc
      isplitl [Ho] <;> iassumption
    imod ih $$ [Hos H0s] with ⟨Hats, Hrs⟩
    · isplitr; · iexact Hc
      isplitl [Hos] <;> iassumption
    imodintro
    isplitl [Hat Hats]; · isplitl [Hat] <;> iassumption
    isplitl [Hr] <;> iassumption

/-- With its link counters at zero in hand, a device opens its link cells and is ready. -/
theorem ready : iprop((records X κ ∗ linear c ∗ credits c)
      ∗ (sepL (fun j => semVal (sendCell c j) 0) allL ∗ sepL (fun j => semVal (recvCell c j) 0) allL) ∗ levAts L lv)
    ⊢ (|={Set.univ}=> bring X κ c : sProp 𝕄) := by
  unfold linear credits bring ctx
  iintro ⟨⟨#Hc, ⟨Hbar, ⟨Hos, Hor⟩, Htb, Hts, Htr⟩, Hcb, Hcr⟩, ⟨H0s, H0r⟩, #Hlev⟩
  imod (opens X κ c sS (send_mem c) allL) $$ [Hos H0s] with ⟨Has, #Hrs⟩
  · isplitr; · iexact Hc
    isplitl [Hos] <;> iassumption
  imod (opens X κ c rS (recv_mem c) allL) $$ [Hor H0r] with ⟨Har, #Hrr⟩
  · isplitr; · iexact Hc
    isplitl [Hor] <;> iassumption
  imodintro
  isplitr
  · isplitr; · iexact Hc
    isplitr; · iexact Hrs
    isplitr; · iexact Hrr
    iexact Hlev
  isplitl [Hbar]; · iexact Hbar
  isplitl [Has]; · iexact Has
  isplitl [Har]; · iexact Har
  isplitl [Htb]; · iexact Htb
  isplitl [Hts]; · iexact Hts
  isplitl [Htr]; · iexact Htr
  isplitl [Hcb] <;> iassumption

/-! ## The duties, each in its payer's hands -/

omit [FloatOps F]

/-- The duties: a device's barrier has one for each far device, and each of its link cells has one. -/
def dutyAt (x : Dev nD × (J ⊕ (J ⊕ J))) : GSem nD τ sig × ℕ × J :=
  match x.2 with
  | .inl j => (barCell x.1, 0, j)
  | .inr k => (((x.1 : Thread nD τ), linkSem k), 0, one)

theorem bar_ne_link (k : J ⊕ J) : SemLoc.reg barS ≠ linkSem k := by rcases k with j | j <;> exact fun h => nomatch h

theorem dutyAt_inj : Function.Injective dutyAt := by
  rintro ⟨a, i | k⟩ ⟨b, j | l⟩ h
  · have h₁ : a = b := congrArg (fun t : GSem nD τ sig × ℕ × J => t.1.1.1) h
    have h₂ : i = j := congrArg (fun t : GSem nD τ sig × ℕ × J => t.2.2) h
    rw [h₁, h₂]
  · exact absurd (congrArg (fun t : GSem nD τ sig × ℕ × J => t.1.2) h) (bar_ne_link l)
  · exact absurd (congrArg (fun t : GSem nD τ sig × ℕ × J => t.1.2) h).symm (bar_ne_link k)
  · have h₁ : a = b := congrArg (fun t : GSem nD τ sig × ℕ × J => t.1.1.1) h
    have h₂ : k = l := linkSem_inj (congrArg (fun t : GSem nD τ sig × ℕ × J => t.1.2) h)
    rw [h₁, h₂]

def duties : Finset (GSem nD τ sig × ℕ × J) := Finset.univ.map ⟨dutyAt, dutyAt_inj⟩

/-- The far end of a link together with the link back; and with the link itself. -/
def turn : Dev nD × J ≃ Dev nD × J :=
  ⟨fun x => (peer x.2 x.1, rev x.2), fun x => (peer x.2 x.1, rev x.2),
    fun x => Prod.ext (peer_rev_peer x.2 x.1) (rev_rev x.2), fun x => Prod.ext (peer_rev_peer x.2 x.1) (rev_rev x.2)⟩
def along : Dev nD × J ≃ Dev nD × J :=
  ⟨fun x => (peer x.2 x.1, x.2), fun x => (peer (rev x.2) x.1, x.2),
    fun x => Prod.ext (peer_rev_peer x.2 x.1) rfl, fun x => Prod.ext (peer_peer_rev x.2 x.1) rfl⟩

/-- A family over devices and links, regrouped by a rearrangement of the pairs. -/
theorem regroup (e : Dev nD × J ≃ Dev nD × J) (Φ : Dev nD × J → sProp 𝕄) :
    (bigSep Finset.univ fun c : Dev nD => sepL (fun j => Φ (c, j)) allL)
      = bigSep Finset.univ fun c : Dev nD => sepL (fun j => Φ (e (c, j))) allL := by
  have h (Ψ : Dev nD × J → sProp 𝕄) : bigSep Finset.univ Ψ = bigSep Finset.univ fun c : Dev nD => sepL (fun j => Ψ (c, j)) allL := by
    rw [BI.bigSep_univ_prod]; exact bigSep_congr fun c _ => all_eq fun j => Ψ (c, j)
  rw [← h, BI.bigSep_univ_equiv e, h]

theorem duties_dealt : bigSep duties (fun x => (dutyTok ER x.1 x.2.1 x.2.2 : sProp 𝕄))
    ⊢ bigSep Finset.univ fun c : Dev nD => iprop(sepL (fun j => dutyTok ER (barCell (peer j c)) 0 (rev j)) allL
      ∗ sepL (fun j => dutyTok ER (sendCell c j) 0 one) allL ∗ sepL (fun j => dutyTok ER (recvCell (peer j c) j) 0 one) allL) := by
  have e : bigSep duties (fun x => (dutyTok ER x.1 x.2.1 x.2.2 : sProp 𝕄))
      = bigSep Finset.univ fun c : Dev nD => iprop(sepL (fun j => dutyTok ER (barCell c) 0 j) allL
        ∗ sepL (fun j => dutyTok ER (sendCell c j) 0 one) allL ∗ sepL (fun j => dutyTok ER (recvCell c j) 0 one) allL) := by
    unfold duties
    rw [BI.bigSep_map, BI.bigSep_univ_prod]
    refine bigSep_congr fun c _ => ?_
    rw [BI.bigSep_univ_sum (α := J) (β := J ⊕ J), BI.bigSep_univ_sum (α := J) (β := J), ← all_eq, ← all_eq, ← all_eq]
    rfl
  rw [e, bigSep_sep', bigSep_sep', bigSep_sep', bigSep_sep',
    regroup turn (fun x => dutyTok ER (barCell x.1) 0 x.2), regroup along (fun x => dutyTok ER (recvCell x.1 x.2) 0 one)]
  exact BI.Entails.refl _

theorem opens_dealt : bigSep linkCells (fun g => (openTok ER g : sProp 𝕄))
    = bigSep Finset.univ fun c : Dev nD =>
      iprop(sepL (fun j => openTok ER (sendCell c j)) allL ∗ sepL (fun j => openTok ER (recvCell c j)) allL) := by
  unfold linkCells
  rw [BI.bigSep_map, BI.bigSep_univ_prod]
  refine bigSep_congr fun c _ => ?_
  rw [BI.bigSep_univ_sum (α := J) (β := J), ← all_eq, ← all_eq]
  rfl

theorem cells_disjoint : Disjoint barCells linkCells := by
  rw [Finset.disjoint_left]
  intro g h₁ h₂
  obtain ⟨c, -, rfl⟩ := Finset.mem_map.mp h₁
  obtain ⟨x, -, h⟩ := Finset.mem_map.mp h₂
  exact bar_ne_link x.2 (congrArg (fun g : GSem nD τ sig => g.2) h).symm

theorem bars_eq (Φ : GSem nD τ sig → sProp 𝕄) : bigSep barCells Φ = bigSep Finset.univ fun c : Dev nD => Φ (barCell c) := by
  unfold barCells; rw [BI.bigSep_map]; rfl

theorem pairs {Φ Ψ : Dev nD → sProp 𝕄} :
    iprop(bigSep Finset.univ Φ ∗ bigSep Finset.univ Ψ) ⊢ bigSep Finset.univ fun c => iprop(Φ c ∗ Ψ c) :=
  Entails.of_eq (bigSep_sep' _ _ _).symm

/-- One allocation makes every cell's invariant and deals every device its part. -/
theorem dealt [FloatOps F] : iprop((bigSep Finset.univ fun c : Dev nD => semVal (barCell c) 0) ∗ BI.own (ER (launchOf barCells linkCells duties)))
    ⊢ (|={Set.univ}=> iprop(∃ κ, records X κ ∗ bigSep Finset.univ fun c : Dev nD => linear c) : sProp 𝕄) := by
  rw [← bars_eq (fun g => (semVal g 0 : sProp 𝕄))]
  iintro ⟨Hv, Hu⟩
  imod (Rounds.fund_launch ER (talk X) cells_disjoint (fun g _ h => h) duties) $$ [Hv Hu] with ⟨%κ, -, #Hinv, #Hr, Hat, Hopen, Htok⟩
  · isplitl [Hv] <;> iassumption
  imodintro
  iexists κ
  isplitr
  · unfold records
    isplitr; · iexact Hinv
    iexact Hr
  unfold linear
  iapply (pairs (F := F))
  isplitl [Hat]; · iapply (Entails.of_eq (bars_eq (fun g => (atPos ER g 0 ∅ 0 : sProp 𝕄)))); iexact Hat
  iapply (pairs (F := F))
  isplitl [Hopen]; · iapply (Entails.of_eq (opens_dealt (F := F))); iexact Hopen
  iapply (duties_dealt (F := F)); iexact Htok

/-! ## The credit -/

theorem sum_owed (f : Dev nD → J → CellTallies nD τ sig Unit) (js : List J) (h : js.Nodup) (g : GSem nD τ sig) :
    ∑ d : Dev nD, owed (f d) js g () = ∑ j ∈ js.toFinset, ∑ d : Dev nD, f d j g () := by
  induction js with
  | nil => exact Finset.sum_const_zero
  | cons j js ih =>
    obtain ⟨h₁, h₂⟩ := List.nodup_cons.mp h
    rw [List.toFinset_cons, Finset.sum_insert (fun h => h₁ (List.mem_toFinset.mp h)), ← ih h₂, ← Finset.sum_add_distrib]
    exact Finset.sum_congr rfl fun d _ => Nat.add_comm _ _

/-- What all devices together owe a cell. -/
theorem sum_O₀ (g : GSem nD τ sig) : ∑ d : Dev nD, O₀ d g () = (∑ j : J, ∑ d : Dev nD, oB d j g ()) + ∑ j : J, ∑ d : Dev nD, oR d j g () := by
  have e (d : Dev nD) : O₀ d g () = owed (oB d) allL g () + (owed (oR d) planeL g () + owed (oR d) acrossL g ()) := rfl
  have hu : (Finset.univ : Finset J) = planeL.toFinset ∪ acrossL.toFinset := by decide
  have hd : Disjoint planeL.toFinset acrossL.toFinset := by decide
  rw [Finset.sum_congr rfl fun d _ => e d, Finset.sum_add_distrib, Finset.sum_add_distrib, sum_owed _ allL (by decide),
    sum_owed _ planeL (by decide), sum_owed _ acrossL (by decide), ← Finset.sum_union hd, ← hu,
    show allL.toFinset = (Finset.univ : Finset J) by decide]

theorem far_eq (j : J) (d c : Dev nD) : peer j d = c ↔ d = peer (rev j) c :=
  ⟨fun h => by rw [← h, peer_rev_peer], fun h => by rw [h, peer_peer_rev]⟩

theorem oB_bar (j : J) (d c : Dev nD) : oB d j (barCell c) () = if d = peer (rev j) c then 1 else 0 := by
  unfold oB
  rw [tallyAt_apply]
  refine if_congr ⟨fun h => ?_, fun h => ?_⟩ rfl rfl
  · exact (far_eq j d c).mp (congrArg (fun g : GSem nD τ sig => g.1.1) h.1).symm
  · exact ⟨by rw [(far_eq j d c).mpr h], Subsingleton.elim _ _⟩
theorem oR_bar (j : J) (d c : Dev nD) : oR d j (barCell c) () = 0 := by
  unfold oR
  rw [tallyAt_apply, if_neg]
  exact fun h => nomatch (congrArg (fun g : GSem nD τ sig => g.2) h.1)
theorem oB_recv (j i : J) (d c : Dev nD) : oB d j (recvCell c i) () = 0 := by
  unfold oB
  rw [tallyAt_apply, if_neg]
  exact fun h => nomatch (congrArg (fun g : GSem nD τ sig => g.2) h.1)
theorem oR_recv (j i : J) (d c : Dev nD) : oR d j (recvCell c i) () = if d = peer (rev j) c then (if j = i then N j else 0) else 0 := by
  unfold oR
  rw [tallyAt_apply, ← ite_and]
  refine if_congr ⟨fun h => ?_, fun h => ?_⟩ rfl rfl
  · exact ⟨(far_eq j d c).mp (congrArg (fun g : GSem nD τ sig => g.1.1) h.1).symm,
      (rS_inj _ _ (SemLoc.dma.inj (congrArg (fun g : GSem nD τ sig => g.2) h.1))).symm⟩
  · obtain ⟨h, rfl⟩ := h
    exact ⟨by rw [(far_eq j d c).mpr h], rfl⟩

theorem due_bar : ∑ d : Dev nD, O₀ d (barCell c) () = 10 := by
  rw [sum_O₀, Finset.sum_congr rfl fun j _ => (Finset.sum_congr rfl fun d _ => oB_bar j d c).trans (Finset.sum_ite_eq' _ _ _),
    Finset.sum_congr rfl fun j _ => Finset.sum_congr rfl fun d _ => oR_bar j d c]
  simp only [Finset.mem_univ, if_true, Finset.sum_const_zero, Finset.sum_const]
  decide
theorem due_recv (i : J) : ∑ d : Dev nD, O₀ d (recvCell c i) () = N i := by
  rw [sum_O₀, Finset.sum_congr rfl fun j _ => Finset.sum_congr rfl fun d _ => oB_recv j i d c,
    Finset.sum_congr rfl fun j _ => (Finset.sum_congr rfl fun d _ => oR_recv j i d c).trans (Finset.sum_ite_eq' _ _ _)]
  simp only [Finset.mem_univ, if_true, Finset.sum_const_zero, Finset.sum_ite_eq', Nat.zero_add]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

def recvEmb : J ↪ SemLoc sig := ⟨fun j => .dma (rS j), fun i j h => rS_inj i j (SemLoc.dma.inj h)⟩

theorem credits_intro : (Pipeline.launchCred O₀ c : sProp 𝕄) ⊢ credits c := by
  have hs : (Finset.univ.map recvEmb : Finset (SemLoc sig)) ⊆ Finset.univ.erase (.reg barS) := by
    intro sm h
    obtain ⟨j, -, rfl⟩ := Finset.mem_map.mp h
    exact Finset.mem_erase.mpr ⟨fun h => (nomatch h), Finset.mem_univ _⟩
  unfold Pipeline.launchCred credits
  rw [bigSep_univ_at _ (SemLoc.reg barS), launch_at (barCell c) 10 (due_bar c)]
  refine BIClass.sep_mono (BI.Entails.refl _) ((BI.bigSep_subset hs).trans ?_)
  rw [BI.bigSep_map, ← all_eq]
  exact Entails.of_eq (bigSep_congr fun j _ => congrArg cred (launch_at (recvCell c j) (N j) (due_recv c j)))

end Cert.Rms
-- ==== Proof.Region.lean ====
/-
  The launch of the kernel as a region of the program: what it finds in its arrays, what its body does there at its one
  grid point, and what it leaves.
-/
module

public import proofs.«01_k».proof.Proof.Deal
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.RegionTalk
public import Idealize.ShloMosaic.Lib.Pipeline.Regions
public import Idealize.ShloMosaic.Lib.Pipeline.ValueKit

@[expose] public section

set_option maxRecDepth 16384

noncomputable section

namespace Cert.Rms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Contents -/

/-- Every device's block of `x`; a device's block of `gamma`, as the program reshapes it. -/
def xs (c : Dev nD) : Vec F S1024x512 .f32 := m ((c : Thread nD τ).loc main_arg0)
def gs (c : Dev nD) : Vec F S1x512 .f32 := V m c main_v1
/-- What the kernel stores on a device. -/
def out (c : Dev nD) : Vec F S1024x512 .f32 := result (xs m) (gs m) c

/-- The buffers at launch, when the kernel starts, and when it has ended. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v2) (out m c)

theorem V₂_out (c : Dev nD) : V₂ m c (Proc.devRef .tc main_v2) = out m c := Function.update_self ..
theorem V₂_of_ne (c : Dev nD) {b : DevRef τ sig} (h : b ≠ Proc.devRef .tc main_v2) : V₂ m c b = V₁ m c b := Function.update_of_ne h ..

/-! ## The region's data -/

/-- The link counters no link uses. -/
def spare : Fin 4 → DmaSem sig := fun | 0 => 3 | 1 => 11 | 2 => 19 | 3 => 23
def spares (c : Dev nD) : sProp 𝕄 := bigSep Finset.univ fun i : Fin 4 => semVal ((c : Thread nD τ), SemLoc.dma (spare i)) 0
def scratch (c : Dev nD) : sProp 𝕄 := iprop((∃ f, aPts c fullShare f) ∗ (∃ f, bPts c fullShare f))

/-- What the body starts from and what it hands back, beside its staging buffers. -/
def before (c : Dev nD) : sProp 𝕄 := iprop((∃ κ, bring (xs m) κ c) ∗ spares c ∗ scratch c ∗ ∃ r, prngReg c r)
def after (c : Dev nD) : sProp 𝕄 := iprop(back c ∗ spares c ∗ ∃ r, prngReg c r)

def dat (c : Dev nD) : Pipeline.Dat τ (Elt F) Unit ℕ UU ℕ cfg0 c where
  A w := V m c (Pipeline.arrRef spec0 w)
  after := fun
    | 0 => fun _ => xs m c
    | 1 => fun _ => gs m c
    | 2 => fun _ => out m c
    | ⟨_ + 3, h⟩ => absurd h (Nat.not_lt.2 (Nat.le_add_left _ _))
  Φ t := if t.val = 0 then before m c else after c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c := fun _ => dat m

theorem block_x (c : Dev nD) (t : Fin cfg0.N) : iblk m c 0 t = xs m c := by
  funext y
  unfold iblk
  blk_simp
  rw [show (win0_0.blk t).view.emb y = y from funext fun a => Fin.ext (by blk_simp; exact (congrArg (· + (y a).val) (Nat.zero_mul _)).trans (Nat.zero_add _)), V_main_arg0]
  rfl
theorem block_g (c : Dev nD) (t : Fin cfg0.N) : iblk m c 1 t = gs m c := by
  funext y
  unfold iblk
  blk_simp
  rw [show (win0_1.blk t).view.emb y = y from funext fun a => Fin.ext (by blk_simp; exact (congrArg (· + (y a).val) (Nat.zero_mul _)).trans (Nat.zero_add _))]
  rfl

theorem before_x (c : Dev nD) (t : Fin cfg0.N) (d) : (dat m c).before 0 t d = xs m c :=
  ((dat m c).before_in_eq_fetched 0 rfl (fun _ => rfl) (fun _ _ _ => rfl)
    (fun t => (block_x m c t).symm) t d).trans (block_x m c t)
theorem before_g (c : Dev nD) (t : Fin cfg0.N) (d) : (dat m c).before 1 t d = gs m c :=
  ((dat m c).before_in_eq_fetched 1 rfl (fun _ => rfl) (fun _ _ _ => rfl)
    (fun t => (block_g m c t).symm) t d).trans (block_g m c t)

theorem arr_x (c : Dev nD) (n : ℕ) : (dat m c).arrAt 0 n = V m c main_arg0 := (dat m c).arrAt_in 0 rfl n
theorem arr_g (c : Dev nD) (n : ℕ) : (dat m c).arrAt 1 n = V m c main_v1 := (dat m c).arrAt_in 1 rfl n
theorem arr_out (c : Dev nD) : (dat m c).arrAt 2 cfg0.N = out m c := by
  refine (dat m c).arrAt_eq_of_after_last 2 t0_0 (by decide +kernel) _ fun j => ?_
  blk_simp
  rfl

theorem owed_first (c : Dev nD) : (dat m c).owed t0_0.castSucc = O₀ c := by
  show (if (t0_0.castSucc : Fin (cfg0.N + 1)).val = 0 then O₀ c else 0) = _; exact if_pos rfl
theorem owed_last (c : Dev nD) : (dat m c).owed (Fin.last _) = 0 := by
  show (if (Fin.last cfg0.N).val = 0 then O₀ c else 0) = _; exact if_neg (show ¬ grid0.N = 0 by rw [N_0]; decide)
theorem Φ_first (c : Dev nD) : (dat m c).Φ t0_0.castSucc = before m c := by
  show (if (t0_0.castSucc : Fin (cfg0.N + 1)).val = 0 then before m c else after c) = _; exact if_pos rfl
theorem Φ_last (c : Dev nD) : (dat m c).Φ (Fin.last _) = after c := by
  show (if (Fin.last cfg0.N).val = 0 then before m c else after c) = _; exact if_neg (show ¬ grid0.N = 0 by rw [N_0]; decide)

theorem owes_in (c : Dev nD) (t) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h, show (dat m c).recorded t = Set.univ from rfl]
  iintro HO; iexists W
  isplitr; · ipureintro; exact fun _ _ => Or.inl trivial
  iexact HO
theorem owes_out (c : Dev nD) (t) (O : CellTallies nD τ sig Unit) (h : (dat m c).owed t = O) :
    (dat m c).owesAt () t ⊢ (iprop(∃ W, owes (c : Thread nD τ) O W) : sProp 𝕄) := by
  unfold Dat.owesAt Pipeline.owesWithin
  rw [h]
  iintro ⟨%W, -, HO⟩; iexists W; iexact HO

theorem x_own (c : Dev nD) (s) (f : Vec F S1024x512 .f32) : (owns (c : Thread nD τ) (win0_0.stage s) fullShare f : sProp 𝕄) = xPts c f :=
  owns_whole (c : Thread nD τ) cc0_stg0_0 fullShare f
theorem g_own (c : Dev nD) (s) (f : Vec F S1x512 .f32) : (owns (c : Thread nD τ) (win0_1.stage s) fullShare f : sProp 𝕄) = gPts c f :=
  owns_whole (c : Thread nD τ) cc0_stg1_0 fullShare f
theorem o_own (c : Dev nD) (s) (f : Vec F S1024x512 .f32) : (owns (c : Thread nD τ) (win0_2.stage s) fullShare f : sProp 𝕄) = oPts c f :=
  owns_whole (c : Thread nD τ) cc0_stg2_0 fullShare f

/-- The one grid point, in the schedule's own words. -/
theorem point_run (c : Dev nD) (Kt : PUnit → sProp 𝕄) :
    iprop(before m c ∗ (∃ W, owes (c : Thread nD τ) (O₀ c) W) ∗ xPts c (xs m c) ∗ gPts c (gs m c) ∗ (∃ f, oPts c f))
      ⊢ iprop(((after c ∗ (∃ W, owes (c : Thread nD τ) 0 W) ∗ xPts c (xs m c) ∗ gPts c (gs m c) ∗ oPts c (out m c)) -∗ Kt ⟨⟩)
        -∗ leads Variants.none c prog Kt) := by
  unfold before after scratch
  iintro ⟨⟨⟨%κ, Hb⟩, Hsp, ⟨Ha, Hbb⟩, Hr⟩, ⟨%W, HO⟩, Hx, Hg, Ho⟩ Hk
  iapply (prog_run Variants.none (xs m) (gs m) κ c W Kt) $$ [Hb HO Hx Hg Ho Ha Hbb]
  · isplitl [Hb]; · iexact Hb
    isplitl [HO]; · iexact HO
    isplitl [Hx]; · iexact Hx
    isplitl [Hg]; · iexact Hg
    isplitl [Ho]; · iexact Ho
    isplitl [Ha] <;> iassumption
  iintro ⟨HO, Hb, Hx, Hg, Ho⟩
  iapply Hk
  isplitl [Hb Hsp Hr]
  · isplitl [Hb]; · iexact Hb
    isplitl [Hsp] <;> iassumption
  isplitl [HO]; · iexact HO
  isplitl [Hx]; · iexact Hx
  isplitl [Hg]; · iexact Hg
  unfold out; iexact Ho

theorem body (c : Dev nD) : BodyObligation (dat m c) defs₀ Variants.none () Set.univ := fun t => by
  obtain rfl := fin_N0 t
  rw [bigSep_W0, bigSep_W0]
  have e : (defs₀ (F := F) .tc cfg0.body (cfg0.bodyArgs t0_0 (cfg0.slots t0_0))) = prog :=
    body_eq (hstage0_0 0) (hstage0_1 0) (hstage0_2 0) (Memref.isWhole_whole _) (Memref.isWhole_whole _)
  rw [e, Φ_first, show (dat m c).Φ t0_0.succ = after c from Φ_last m c]
  have hx d := (congrArg (owns (c : Thread nD τ) (win0_0.stage (cfg0.slots t0_0 0)) fullShare) (before_x m c t0_0 d)).trans (x_own c _ (xs m c))
  have hg d := (congrArg (owns (c : Thread nD τ) (win0_1.stage (cfg0.slots t0_0 1)) fullShare) (before_g m c t0_0 d)).trans (g_own c _ (gs m c))
  iintro ⟨HΦ, HO, ⟨%d, Hx⟩, ⟨%d', Hg⟩, ⟨%d'', Ho⟩⟩
  ihave HO := (owes_out m c _ (O₀ c) (owed_first m c)) $$ HO
  ihave Hx := (Entails.of_eq (hx d)) $$ Hx
  ihave Hg := (Entails.of_eq (hg d')) $$ Hg
  ihave Ho := (Entails.of_eq (o_own c (cfg0.slots t0_0 2) _)) $$ Ho
  iapply (point_run m c _) $$ [HΦ HO Hx Hg Ho]
  · isplitl [HΦ]; · iexact HΦ
    isplitl [HO]; · iexact HO
    isplitl [Hx]; · iexact Hx
    isplitl [Hg]; · iexact Hg
    iexists _; iexact Ho
  iintro ⟨HΦ, ⟨%W, HO⟩, Hx, Hg, Ho⟩
  isplitl [HΦ]; · iexact HΦ
  isplitl [HO]; · iapply (owes_in m c t0_0.succ 0 (owed_last m c) W); iexact HO
  isplitl [Hx]; · iapply (Entails.of_eq (x_own c (cfg0.slots t0_0 0) (xs m c)).symm); iexact Hx
  isplitl [Hg]; · iapply (Entails.of_eq (g_own c (cfg0.slots t0_0 1) (gs m c)).symm); iexact Hg
  iapply (Entails.of_eq (o_own c (cfg0.slots t0_0 2) (out m c)).symm); iexact Ho

end Cert.Rms
-- ==== Proof.Launch.lean ====
/-
  The program launched on all devices at once: everything dealt, the reshape, the kernel, and what every final state holds.
-/
module

public import proofs.«01_k».proof.Proof.Region

@[expose] public section

set_option maxRecDepth 16384

noncomputable section

namespace Cert.Rms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own counters -/

def osem : Fin 4 ⊕ (J ⊕ J) → SemLoc sig := fun
  | .inl i => .dma (spare i)
  | .inr k => linkSem k

theorem osemFacts : Pipeline.OwnSemFacts spec0 osem := by decide

theorem own_eq (c : Dev nD) : (Pipeline.ownSems0 osem c : sProp 𝕄)
    = iprop(spares c ∗ (sepL (fun j => semVal (sendCell c j) 0) allL ∗ sepL (fun j => semVal (recvCell c j) 0) allL)) := by
  unfold Pipeline.ownSems0
  rw [BI.bigSep_univ_sum (α := Fin 4) (β := J ⊕ J), BI.bigSep_univ_sum (α := J) (β := J), ← all_eq, ← all_eq]
  rfl

theorem rest_eq (c : Dev nD) : (Pipeline.scopedRest (Ix := Unit) (Name := ℕ) (U := UU) (Lvl := ℕ) (Val := Elt F)
    (Pipeline.pin (pcfgs (F := F)) adm 0).spec c : sProp 𝕄) = scratch c := scopedRest0_eq c

/-! ## The region -/

/-- What is kept for the kernel from the launch on. -/
def kept (c : Dev nD) : sProp 𝕄 := iprop((∃ κ, records (xs m) κ ∗ linear c) ∗ credits c)
/-- What the kernel starts from, its counters in hand. -/
def opened (c : Dev nD) : sProp 𝕄 := iprop((∃ κ, bring (xs m) κ c) ∗ spares c)
def left (c : Dev nD) : sProp 𝕄 := semVal (barCell c) 0

theorem to_open (c : Dev nD) : iprop(kept m c ∗ Pipeline.ownSems0 osem c ∗ levAts L lv) ⊢ (|={Set.univ}=> opened m c : sProp 𝕄) := by
  rw [own_eq]
  unfold kept opened
  iintro ⟨⟨⟨%κ, #Hr, Hl⟩, Hc⟩, ⟨Hsp, Hs, Hv⟩, #Hlev⟩
  imod (ready (xs m) κ c) $$ [Hl Hc Hs Hv] with H
  · isplitl [Hl Hc]
    · isplitr; · iexact Hr
      isplitl [Hl] <;> iassumption
    isplitl [Hs Hv]; · isplitl [Hs] <;> iassumption
    iexact Hlev
  imodintro
  isplitl [H]; · iexists κ; iexact H
  iexact Hsp

theorem to_body (c : Dev nD) : iprop(Pipeline.scopedRest (Pipeline.pin (pcfgs (F := F)) adm 0).spec c ∗ (∃ r, prngReg c r)
      ∗ StableHlo.held (c.tc : Thread nD τ) ∅ (V₁ m c) ∗ opened m c) ⊢ (pdats m 0 c).Φ 0 := by
  rw [show (pdats m 0 c).Φ 0 = before m c from Φ_first m c, rest_eq]
  unfold opened before
  iintro ⟨Hs, Hr, -, Hb, Hsp⟩
  isplitl [Hb]; · iexact Hb
  isplitl [Hsp]; · iexact Hsp
  isplitl [Hs] <;> iassumption

theorem from_body (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ left c) := by
  rw [show (pdats m 0 c).Φ (Fin.last _) = after c from Φ_last m c, rest_eq, own_eq]
  unfold after back left scratch
  iintro ⟨⟨Hb, Hs, Hv, Ha, Hbb⟩, Hsp, Hr⟩
  isplitl [Ha Hbb]; · isplitl [Ha] <;> iassumption
  isplitl [Hr]; · iexact Hr
  isplitr
  · unfold StableHlo.held
    rw [BI.bigSep_empty]; iempintro
  isplitr [Hb]
  · isplitl [Hsp]; · iexact Hsp
    isplitl [Hs] <;> iassumption
  iexact Hb

/-- The unscoped buffers no window stages. -/
def others : Finset (DevRef τ sig) := Pipeline.ucRefs τ sig \ Pipeline.arrRefs (τ := τ) spec0

theorem out_not_other : Proc.devRef .tc main_v2 ∉ others :=
  fun h => (Finset.mem_sdiff.mp h).2 (Finset.mem_map_of_mem _ (Finset.mem_image_of_mem _ (Finset.mem_univ (2 : Fin 3))))

theorem entry_arr (c : Dev nD) (w : Fin 3) : (dat m c).arrAt w 0 = V₁ m c (Proc.devRef .tc (Pipeline.arrRef spec0 w)) := rfl
theorem exit_arr (c : Dev nD) : ∀ w : Fin 3, (dat m c).arrAt w cfg0.N = V₂ m c (Proc.devRef .tc (Pipeline.arrRef spec0 w)) := fun
  | 0 => (arr_x m c _).trans (V₂_of_ne m c (by decide)).symm
  | 1 => (arr_g m c _).trans (V₂_of_ne m c (by decide)).symm
  | 2 => (arr_out m c).trans (V₂_out m c).symm
  | ⟨_ + 3, h⟩ => absurd h (Nat.not_lt.2 (Nat.le_add_left _ _))

theorem cut : Pipeline.LevelCutOwed (pcfgs (F := F)) adm (pdats m) () L lv 0 fun _ => 0 where
  hι c w s := by rw [L_tc]; exact Finset.mem_singleton_self _
  hιb c w s := (by decide : ∀ (w : Fin 3) (s : Fin (win0 w).nbuf), lvOf (role (.dma ((win0 w).sem s))) ≤ 0) w s
  hD c t g i h := by
    have e : (pdats m 0 c).owed t = if t.val = 0 then O₀ c else 0 := rfl
    rw [e] at h
    split at h
    · exact O₀_pos h
    · exact absurd h (Nat.lt_irrefl 0)

set_option backward.isDefEq.respectTransparency.types false in
def region : Pipeline.RegionSeg (pcfgs (F := F)) adm (pdats m) () defs₀ Variants.none L lv 0 :=
  Pipeline.RegionSeg.ofTalk (pcfgs (F := F)) adm (pdats m) () defs₀ Variants.none L lv 0 osem osemFacts
    ∅ others (Finset.empty_subset _) launch0.toP rfl (fun c => (body m c).loose)
    (fun _ => 0) O₀ (fun c => (owed_first m c).trans (zero_add _).symm) (owed_last m) (fun _ => rfl)
    (fun c w => by fin_cases w <;> rfl)
    (V₁ m) (V₂ m) (fun c b hb => V₂_of_ne m c fun h => out_not_other (h ▸ (Finset.mem_sdiff.mp hb).1))
    (kept m) left (opened m) left (to_open m) (to_body m) (from_body m)
    (fun c => by iintro H; imodintro; iexact H)
    (fun _ => 0) (cut m) (fun _ => iprop(emp)) (entry_arr m) (exit_arr m)

/-- What rides beside the buffers: what is kept for the kernel, the register, and what the device owes. -/
def beside (c : Dev nD) : sProp 𝕄 := iprop(kept m c ∗ (∃ r, prngReg c r) ∗ ∃ W, owes (c : Thread nD τ) (O₀ c) W)

def host : Pipeline.HostSeg (Name := ℕ) (U := UU) (pcfgs (F := F)) defs₀ Variants.none L lv :=
  Pipeline.HostSeg.ofOps _ _ _ _ _ (Pipeline.ucRefs τ sig) hostOps0
    (fun op h => Pipeline.sub_ucRefs op (List.forall_iff_forall_mem.mp hostOps0_sub op h))
    (fun op h => List.forall_iff_forall_mem.mp hostOps0_fresh op h) (V₀ m) (beside m)

theorem held_split (c : Dev nD) (W : Valuation τ sig (Elt F)) : (StableHlo.held (c.tc : Thread nD τ) (Pipeline.ucRefs τ sig) W : sProp 𝕄)
    = iprop(StableHlo.held (c.tc : Thread nD τ) (Pipeline.arrRefs (τ := τ) spec0) W ∗ StableHlo.held (c.tc : Thread nD τ) others W) :=
  StableHlo.held_sub_split (c.tc : Thread nD τ) (Pipeline.arrRefs_sub_ucRefs spec0 (by decide)) W

theorem region_pre (c : Dev nD) : iprop(StableHlo.held (c.tc : Thread nD τ) (Pipeline.ucRefs τ sig) (V₁ m c) ∗ beside m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ kept m c ∗ ∃ Wd, owes (c : Thread nD τ) (0 + O₀ c) Wd)
  rw [held_split, zero_add]
  unfold beside
  iintro ⟨⟨Ha, Ho⟩, Hk, Hp, HO⟩
  isplitl [Ha]; · iexact Ha
  isplitl [Hp]; · iexact Hp
  isplitl [Ho]
  · isplitl [Ho]; · iexact Ho
    iempintro
  isplitl [Hk] <;> iassumption

/-- What a device ends with. -/
def final (c : Dev nD) : sProp 𝕄 := iprop(StableHlo.held (c.tc : Thread nD τ) (Pipeline.ucRefs τ sig) (V₂ m c) ∗ semVal (barCell c) 0)

theorem region_post (c : Dev nD) : (region m).post c
    ⊢ iprop(final m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ left c ∗ ∃ Wd, owes (c : Thread nD τ) (0 : CellTallies nD τ sig Unit) Wd) ⊢ _
  unfold final left
  rw [held_split]
  iintro ⟨Ha, -, ⟨Ho, -⟩, Hb, HO⟩
  isplitr [HO]
  · isplitl [Ha Ho]; · isplitl [Ha] <;> iassumption
    iexact Hb
  iexact HO

def segs : List (Pipeline.Seg (pcfgs (F := F)) adm (pdats m) () defs₀ Variants.none L lv) := [.host (host m), .region (region m)]

/-! ## Dealing -/

/-- A resource that all devices share, put down at device 0 until it is split. -/
def atZero (P : sProp 𝕄) (c : Dev nD) : sProp 𝕄 := if c = 0 then P else iprop(emp)
theorem atZero_all (P : sProp 𝕄) : bigSep Finset.univ (atZero P) = P := by
  have h : ∀ c ∈ Finset.univ.erase (0 : Dev nD), atZero P c = (BI.emp : sProp 𝕄) := fun c hc => if_neg (Finset.ne_of_mem_erase hc)
  rw [bigSep_univ_at _ (0 : Dev nD), bigSep_congr h, BI.bigSep_emp_const, show atZero P 0 = P from if_pos rfl]
  exact BI.equiv_iff.mp sep_emp

def shared : sProp 𝕄 := BI.own (ER (launchOf barCells linkCells duties))

def u₀ : UU :=
  (initOf (Pipeline.cells (Pipeline.pin (pcfgs (F := F)) adm) cellOf_inj) (Pipeline.launchToks (Pipeline.pin (pcfgs (F := F)) adm) cellOf_inj),
    launchOf barCells linkCells duties)

abbrev first (c : Dev nD) : sProp 𝕄 := iprop(StableHlo.held (c.tc : Thread nD τ) (Pipeline.ucRefs τ sig) (V₀ m c) ∗ beside m c)

/-- What a device is dealt that is its own from the start. -/
def own (c : Dev nD) : sProp 𝕄 :=
  iprop(StableHlo.held (c.tc : Thread nD τ) (Pipeline.ucRefs τ sig) (V₀ m c) ∗ credits c ∗ owes (c : Thread nD τ) (O₀ c) ∅ ∗ ∃ r, prngReg c r)

theorem bar_only (c : Dev nD) : (unscopedSems0 c : sProp 𝕄) = semVal (barCell c) 0 := by
  unfold unscopedSems0
  rw [show (Finset.univ.filter fun sm : SemLoc sig => ¬ sm.isScoped .tc) = {SemLoc.reg barS} by decide, BI.bigSep_singleton]

theorem first_of (κ : GSem nD τ sig → ℕ) (c : Dev nD) : iprop(records (xs m) κ ∗ (linear c ∗ own m c)) ⊢ first m c := by
  unfold own first beside kept
  iintro ⟨#Hr, Hl, Hh, Hc, HO, Hp⟩
  isplitl [Hh]; · iexact Hh
  isplitl [Hl Hc]
  · isplitl [Hl]
    · iexists κ
      isplitr; · iexact Hr
      iexact Hl
    iexact Hc
  isplitl [Hp]; · iexact Hp
  iexists ∅; iexact HO

theorem deal_one (P : Dev nD → sProp 𝕄) (c : Dev nD) :
    iprop(unscopedBufs c (fun b => m ((c : Thread nD τ).loc b)) ∗ unscopedSems0 c
      ∗ owes (c : Thread nD τ) (O₀ c) ∅ ∗ Pipeline.launchCred O₀ c ∗ prngReg c (ρ c) ∗ P c)
    ⊢ (iprop(own m c ∗ (semVal (barCell c) 0 ∗ P c)) : sProp 𝕄) := by
  rw [show (unscopedBufs c (fun b => m ((c : Thread nD τ).loc b)) : sProp 𝕄) = StableHlo.held (c.tc : Thread nD τ) (Pipeline.ucRefs τ sig) (V₀ m c)
    from Pipeline.unscopedBufs_held c (V₀ m c), bar_only]
  unfold own
  iintro ⟨Hh, Hb, HO, Hc, Hp, HP⟩
  ihave Hc := (credits_intro c) $$ Hc
  isplitr [Hb HP]
  · isplitl [Hh]; · iexact Hh
    isplitl [Hc]; · iexact Hc
    isplitl [HO]; · iexact HO
    iexists (ρ c); iexact Hp
  isplitl [Hb] <;> iassumption

theorem deal_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atZero shared c)) ∗ levAts L lv)
      ⊢ (|={Set.univ}=> bigSep Finset.univ (first m) : sProp 𝕄) := by
  have h1 : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ atZero shared c))
      ⊢ (iprop((bigSep Finset.univ fun c => own m c) ∗ ((bigSep Finset.univ fun c => semVal (barCell c) 0) ∗ BI.own (ER (launchOf barCells linkCells duties)))) : sProp 𝕄) := by
    refine (show _ ⊢ _ from BI.bigSep_mono fun c _ => deal_one m ρ (atZero shared) c).trans ?_
    rw [bigSep_sep', bigSep_sep', atZero_all]
    exact BI.Entails.refl _
  iintro ⟨H, -⟩
  ihave H := h1 $$ H
  icases H with ⟨Ho, Hd⟩
  imod (dealt (xs m)) $$ Hd with ⟨%κ, #Hr, Hl⟩
  imodintro
  iapply (bigSep_with_persistent (R := records (xs m) κ) (Φ := fun c => iprop(linear c ∗ own m c)) fun c _ => first_of m κ c)
  isplitr; · iexact Hr
  iapply (pairs (F := F))
  isplitl [Hl] <;> iassumption

/-! ## The run -/

theorem only_bar : ∀ sm : SemLoc sig, sm.isScoped .tc = false → sm = .reg barS := by decide

theorem bufs_eq (c : Dev nD) (W : Valuation τ sig (Elt F)) : (StableHlo.held (c.tc : Thread nD τ) (Pipeline.ucRefs τ sig) W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v1) ↦{fullShare} W (Proc.devRef .tc main_v1)) ∗ (((c : Thread nD τ).loc main_v2) ↦{fullShare} W (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl

set_option backward.isDefEq.respectTransparency.types false in
/-- From any memory with the counters at zero every fair execution ends; then the arguments are as they were, every device's
    result is what the kernel computes of all devices' blocks, and every counter of the machine is zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = out m c) ∧ r.2.sem = fun _ => 0) :=
  Pipeline.θ_run_regions_kit_sems (pcfgs (F := F)) adm (pdats m) () cellOf_inj EP defs₀ Variants.none L lv m ρ main (segs m)
    (fun c Q => by rw [main_segs adm (pdats m) () Variants.none L lv (host m) (region m) rfl c]; exact .rfl)
    (by simp only [segs, Pipeline.Seg.pipes_host, Pipeline.Seg.pipes_region, Pipeline.Seg.pipes_nil]; decide)
    (O₀ := O₀) (hL := L_of_ne) (G := atZero shared) (u₀ := u₀)
    (hu₀ := by
      unfold u₀
      rw [atZero_all]
      unfold shared
      iintro Hu
      ihave H := (ownU_pair _ _) $$ Hu
      icases H with ⟨HP, HX⟩
      imodintro
      isplitl [HP] <;> iassumption)
    (T₀ := first m) (Tₙ := final m)
    (hch := ⟨fun c => .rfl, fun c => region_pre m c, fun c => region_post m c⟩)
    (hinit := deal_all m ρ)
    (QY := fun c s => (s.mem ((c : Thread nD τ).loc main_arg0) = V₂ m c (Proc.devRef .tc main_arg0)
      ∧ s.mem ((c : Thread nD τ).loc main_arg1) = V₂ m c (Proc.devRef .tc main_arg1)
      ∧ s.mem ((c : Thread nD τ).loc main_v2) = V₂ m c (Proc.devRef .tc main_v2)) ∧ s.sem (barCell c) = 0)
    (hfin := fun c s' => by
      unfold final; rw [bufs_eq]
      iintro ⟨⟨⟨Hx, Hg, -, Ho⟩, Hb⟩, HSI⟩
      icombine HSI Hx gives %hx
      icombine HSI Hg gives %hg
      icombine HSI Ho gives %ho
      icombine HSI Hb gives %hb
      imodintro
      isplitr
      · ipureintro
        exact ⟨⟨Buf.eq_of_forall_mem_univ hx, Buf.eq_of_forall_mem_univ hg, Buf.eq_of_forall_mem_univ ho⟩, by simpa using hb⟩
      iexact HSI)
    (hQ := fun s h hs => ⟨fun c =>
        ⟨(h c).1.1.trans ((V₂_of_ne m c (by decide)).trans (V_main_arg0 m c)),
          (h c).1.2.1.trans ((V₂_of_ne m c (by decide)).trans (V_main_arg1 m c)),
          (h c).1.2.2.trans (V₂_out m c)⟩,
      sem_eq_zero hs fun c sm hsm => by
        obtain rfl := only_bar sm hsm
        exact (h c).2⟩)

end Cert.Rms
-- ==== Proof.Target.lean ====
/-
  What the reference computes of whole arrays, over the extended reals, and its value at an index.
-/
module

public import proofs.«01_k».proof.Proof.Gen.ReferenceIdeal.Run
public import Idealize.ShloMosaic.Lib.Pointwise

@[expose] public section

set_option maxRecDepth 16384

noncomputable section

namespace Cert.Rms

open Idealize.ShloMosaic Idealize.SL.Sem Cert.ReferenceIdeal Cert.ReferenceIdeal.Gen

/-- What the reference computes of whole arrays. -/
def norm (x : FVec Ideal S1024x16384 .f32) (g : FVec Ideal S16384 .f32) :
    FVec Ideal S1024x16384 .f32 :=
  Host.divf (mulf (broadcastInDim S1024x16384 ![0, 1] bcast_S1x16384_S1024x16384_0_1 (broadcastInDim S1x16384 ![1] bcast_S16384_S1x16384_1 g)) x)
    (broadcastInDim S1024x16384 ![0, 1] bcast_S1024x1_S1024x16384_0_1 (Host.sqrt (addf
      (Host.divf (broadcastInDim S1024x1 ![0] bcast_S1024_S1024x1_0
          (Host.reduceAdd (mulf x x) (constant S_ .f32 0x00000000#32) reducesTo_S1024x16384_S1024_d1 h_S_))
        (broadcastInDim S1024x1 ![] bcast_S_S1024x1 (constant S_ .f32 0x46800000#32)))
      (broadcastInDim S1024x1 ![] bcast_S_S1024x1 (constant S_ .f32 0x3727C5AC#32)))))

variable (x : FVec Ideal S1024x16384 .f32) (g : FVec Ideal S16384 .f32)

theorem norm_apply (i : Fin 1024) (j : Fin 16384) :
    norm x g (ix2 i j) = Ideal.div (g (ix1 j) * x (ix2 i j))
      (Ideal.sqrt (Ideal.div (∑ k : Fin 16384, x (ix2 i k) * x (ix2 i k)) (Ideal.ofBits .f32 0x46800000#32)
        + Ideal.ofBits .f32 0x3727C5AC#32)) := by
  unfold norm
  pointwise
  done

end Cert.Rms
-- ==== Proof.Value.lean ====
/-
  What a device holds at the end, over the extended reals: its columns of `γ·x / √(mean(x²) + ε)`.
-/
module

public import proofs.«01_k».proof.Proof.Region
public import proofs.«01_k».proof.Proof.Target

@[expose] public section

set_option maxRecDepth 16384

noncomputable section

namespace Cert.Rms

open Idealize.ShloMosaic Idealize.SL.Sem Cert.KernelIdeal Cert.KernelIdeal.Gen

variable (X : Dev nD → Vec Ideal S1024x512 .f32) (G : Dev nD → Vec Ideal S1x512 .f32)

theorem part_apply (d : Dev nD) (i : Fin 1024) :
    part X d (ix2 0 i) = ∑ k : Fin 512, X d (ix2 i k) * X d (ix2 i k) := by
  unfold part
  pointwise [k0_pay2, k0_pay1]
  done

theorem plane_apply (c : Dev nD) (i : Fin 1024) :
    plane X c (ix2 0 i) = ∑ r : Fin 8, part X (from1 c r) (ix2 0 i) := by
  unfold plane
  pointwise [k0_pay4]
  rfl

theorem result_apply (c : Dev nD) (i : Fin 1024) (k : Fin 512) :
    result X G c (ix2 i k) = X c (ix2 i k) * G c (ix2 0 k)
      * Ideal.rsqrt (Ideal.div (∑ z : Fin 4, plane X (from2 c z) (ix2 0 i)) (Ideal.ofBits .f32 0x46800000#32)
          + Ideal.ofBits .f32 0x3727C5AC#32) := by
  unfold result scaled
  pointwise [k0_pay5, k0_pay3, k0_pay1]
  rfl

/-! ## Every device's total -/

/-- The two exchanges bring a device every device's row exactly once. -/
theorem from_bij (c : Dev nD) : Function.Bijective fun p : Fin 4 × Fin 8 => from1 (from2 c p.1) p.2 := by
  have hc := dlt c
  refine (Fintype.bijective_iff_injective_and_card _).2 ⟨fun ⟨z, r⟩ ⟨z', r'⟩ h => ?_, by simp⟩
  have h := congrArg Fin.val h
  simp only [from1_val, from2_val] at h
  have := z.isLt; have := z'.isLt; have := r.isLt; have := r'.isLt
  refine Prod.ext (Fin.ext ?_) (Fin.ext ?_) <;> simp only <;> omega

theorem sum_from (c : Dev nD) (f : Dev nD → EReal) : ∑ z : Fin 4, ∑ r : Fin 8, f (from1 (from2 c z) r) = ∑ d, f d := by
  rw [← Fintype.sum_prod_type' (f := fun z r => f (from1 (from2 c z) r))]
  exact (from_bij c).sum_comp f

/-- Column `k` of device `d`'s block, in the whole array. -/
def whole (d : Dev nD) (k : Fin 512) : Fin 16384 := ⟨d.val * 512 + k.val, by have := dlt d; have := k.isLt; omega⟩

theorem sum_whole (f : Fin 16384 → EReal) : ∑ d : Dev nD, ∑ k : Fin 512, f (whole d k) = ∑ j, f j := by
  rw [← Fintype.sum_prod_type' (f := fun d k => f (whole d k))]
  refine Fintype.sum_equiv (finProdFinEquiv (m := 32) (n := 512)) _ _ fun p => congrArg f (Fin.ext ?_)
  show p.1.val * 512 + p.2.val = p.2.val + 512 * p.1.val
  omega

/-! ## The scale -/

theorem width_val : Ideal.ofBits .f32 0x46800000#32 = ((16384 : ℝ) : EReal) := by
  simp [Ideal.ofBits, Ideal.ieee, -EReal.coe_mul]; norm_num

theorem eps_pos : 0 < Ideal.ofBits .f32 0x3727C5AC#32 := by
  simp [Ideal.ofBits, Ideal.ieee, -EReal.coe_mul]

theorem square_nonneg (a : EReal) : 0 ≤ a * a := by
  rcases le_total 0 a with h | h
  · exact mul_nonneg h h
  · rw [← neg_mul_neg]; exact mul_nonneg (EReal.neg_nonneg.2 h) (EReal.neg_nonneg.2 h)

/-- A mean of squares plus the epsilon is positive. -/
theorem radicand_pos {s : EReal} (hs : 0 ≤ s) :
    0 < Ideal.div s (Ideal.ofBits .f32 0x46800000#32) + Ideal.ofBits .f32 0x3727C5AC#32 := by
  rw [width_val, Ideal.div_coe (by norm_num)]
  exact eps_pos.trans_le (le_add_of_nonneg_left (mul_nonneg hs (EReal.coe_nonneg.2 (by norm_num))))

/-- Scaling by the reciprocal root of a positive number is dividing by its root. -/
theorem scale_eq (a : EReal) {t : EReal} (ht : 0 < t) : a * Ideal.rsqrt t = Ideal.div a (Ideal.sqrt t) := by
  induction t with
  | bot => exact absurd ht (not_lt_bot)
  | top =>
    show a * 0 = Ideal.div a ⊤
    rw [Ideal.div, if_neg (by simp), EReal.inv_top]
  | coe r =>
    have hr : 0 < r := EReal.coe_pos.1 ht
    have hq : Real.sqrt r ≠ 0 := (Real.sqrt_pos.2 hr).ne'
    show a * (if r < 0 then ⊥ else if r = 0 then ⊤ else (((Real.sqrt r)⁻¹ : ℝ) : EReal)) = Ideal.div a (if r < 0 then ⊥ else ((Real.sqrt r : ℝ) : EReal))
    rw [if_neg hr.not_gt, if_neg hr.ne', if_neg hr.not_gt, Ideal.div_coe hq, one_div]

/-! ## Against the whole arrays -/

variable (x : FVec Ideal Cert.ReferenceIdeal.S1024x16384 .f32) (g : FVec Ideal Cert.ReferenceIdeal.S16384 .f32)

/-- From its own columns of `x` and of `gamma`, a device computes its own columns of the result. -/
theorem result_eq (hX : ∀ d i k, X d (ix2 i k) = x (ix2 i (whole d k))) (hG : ∀ d k, G d (ix2 0 k) = g (ix1 (whole d k)))
    (c : Dev nD) (i : Fin 1024) (k : Fin 512) : result X G c (ix2 i k) = norm x g (ix2 i (whole c k)) := by
  have e : ∑ z : Fin 4, plane X (from2 c z) (ix2 0 i) = ∑ j : Fin 16384, x (ix2 i j) * x (ix2 i j) := by
    rw [← sum_whole, ← sum_from c]
    refine Finset.sum_congr rfl fun z _ => (plane_apply X _ i).trans (Finset.sum_congr rfl fun r _ => ?_)
    rw [part_apply]
    exact Finset.sum_congr rfl fun k _ => by rw [hX]
  rw [result_apply, norm_apply, e, scale_eq _ (radicand_pos (Finset.sum_nonneg fun j _ => square_nonneg _)), hX, hG,
    mul_comm (x _)]

/-! ## The arrays at launch -/

variable (m : (ℓ : Loc nD τ sig) → Buf (Elt Ideal) ℓ)

theorem gs_apply (c : Dev nD) (k : Fin 512) :
    gs m c (ix2 0 k) = (m ((c.tc : Thread nD τ).loc main_arg1) : Vec Ideal S512 .f32) (ix1 k) := by
  have e : gs m c = (shapeCast S1x512 (m ((c.tc : Thread nD τ).loc main_arg1) : Vec Ideal S512 .f32) shapeCasts_S512_S1x512 : Vec Ideal S1x512 .f32) := by
    unfold gs V
    after_results
    rfl
  rw [e]
  pointwise
  done

/-- Where a device's block lies in the whole arrays. -/
theorem cols_idx (h : Layout.Tiles ⟨2, ![1024, 512]⟩ ⟨2, ![1024, 16384]⟩ 1 32) (d : Dev nD) (i : Fin 1024) (k : Fin 512) :
    h.idx d (ix2 i k) = ix2 i (whole d k) := by
  funext a
  refine Fin.cases ?_ (fun b => ?_) a
  · exact Fin.ext (Layout.idx_cols_val h d (ix2 i k)).1
  · obtain rfl : b = 0 := Subsingleton.elim _ _
    exact Fin.ext (Layout.idx_cols_val h d (ix2 i k)).2
theorem line_idx (h : Layout.Tiles ⟨1, ![512]⟩ ⟨1, ![16384]⟩ 0 32) (d : Dev nD) (k : Fin 512) :
    h.idx d (ix1 k) = ix1 (whole d k) := by
  funext a
  obtain rfl : a = 0 := Subsingleton.elim _ _
  exact Fin.ext (Layout.Tiles.idx_val h d (ix1 k) 0)

theorem out_eq
    (hx : ∀ d : Dev nD, m ((d.tc : Thread nD τ).loc main_arg0) = Layout.block ⟨2, ![1024, 512]⟩ ⟨2, ![1024, 16384]⟩ 1 32 d x)
    (hg : ∀ d : Dev nD, m ((d.tc : Thread nD τ).loc main_arg1) = Layout.block ⟨1, ![512]⟩ ⟨1, ![16384]⟩ 0 32 d g) (c : Dev nD) :
    out m c = Layout.block ⟨2, ![1024, 512]⟩ ⟨2, ![1024, 16384]⟩ 1 32 c (norm x g) := by
  funext y
  obtain ⟨i, k, rfl⟩ : ∃ (i : Fin 1024) (k : Fin 512), y = ix2 i k := ⟨y 0, y 1, eq_ix2 y⟩
  refine (result_eq (xs m) (gs m) x g (fun d i k => ?_) (fun d k => ?_) c i k).trans (congrArg (norm x g) (cols_idx _ c i k).symm)
  · refine (congrFun (hx d) (ix2 i k)).trans (congrArg x (cols_idx _ d i k))
  · refine (gs_apply m d k).trans ((congrFun (hg d) (ix1 k)).trans (congrArg g (line_idx _ d k)))

end Cert.Rms
-- ==== Proof.lean ====
/-
  The certificate: the frames of the kernel at both instances and of the reference, and the value the kernel computes over
  the extended reals. `Proof/Launch.lean` has the kernel's run, `Proof/Value.lean` the arithmetic.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Launch
public import proofs.«01_k».proof.Proof.Value

@[expose] public section

noncomputable section

namespace Cert.Proof

open Idealize.ShloMosaic Idealize.SL.Sem

/-- The bodies the two prints of the kernel call are one text; a body table is compared label by label. -/
theorem bodies_same : Cert.KernelIdeal.defs₀ (F := Bits) = Cert.Kernel.defs₀ (F := Bits) := by
  funext p ℓ a
  rcases p with _ | _ | _
  · rcases ℓ with ⟨_ | n, h⟩
    · rfl
    · exact absurd h (Nat.not_lt.2 (Nat.le_add_left _ _))
  · rfl
  · rfl

theorem tables_same : Cert.KernelIdeal.defs (F := Bits) = Cert.Kernel.defs (F := Bits) :=
  congrArg (Pipeline.defs Cert.KernelIdeal.pcfgs) bodies_same

/-- The kernel as printed: its text is the ideal one's, so its run is `Rms.run_main` at the machine's floats. -/
theorem frame_kernel : Cert.quiescent_Kernel := fun m ρ _ => by
  have h := Rms.run_main (F := Bits) m ρ
  rw [tables_same] at h
  exact (θ_run Cert.Kernel.defs _ _).mono (fun _ h => ⟨fun c => ⟨(h.1 c).1, (h.1 c).2.1⟩, h.2⟩) h

theorem frame_ideal : Cert.quiescent_KernelIdeal := fun m ρ _ =>
  (θ_run Cert.KernelIdeal.defs _ _).mono (fun _ h => ⟨fun c => ⟨(h.1 c).1, (h.1 c).2.1⟩, h.2⟩) (Rms.run_main (F := Ideal) m ρ)

/-- The reference has no semaphore at all. -/
theorem no_counter : IsEmpty (GSem Cert.ReferenceIdeal.nD Cert.ReferenceIdeal.τ Cert.ReferenceIdeal.sig) :=
  ⟨fun g => by rcases g.2 with s | s <;> exact Fin.elim0 s⟩

theorem frame_reference : Cert.quiescent_ReferenceIdeal := fun m ρ _ =>
  (θ_run Cert.ReferenceIdeal.defs _ _).mono
    (fun _ h => ⟨fun c => (h c).2, funext fun g => no_counter.elim g⟩) (Cert.ReferenceIdeal.Value.run (F := Ideal) m ρ)

/-- Over the extended reals every device ends with its columns of the reference's result. -/
theorem value : Cert.algebraic_KernelIdeal_ReferenceIdeal := fun m g m' g' _ hm =>
  ⟨Rms.norm (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Rms.out_eq _ _ m (fun d => (hm d).1) (fun d => (hm d).2) c), (h.1 c).1, (h.1 c).2.1⟩)
      (Rms.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
